-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x4x512x512 : Shape := ⟨4, ![32, 4, 512, 512]⟩
abbrev S_ : Shape := ⟨0, ![]⟩

class Facts : Prop where
  bcast_S_S32x4x512x512 : S_.BroadcastsInDim S32x4x512x512 (![] : Fin 0 → Fin S32x4x512x512.rank)

variable [Facts]

def fn {F : FTy → Type} [FloatOps F] (main_arg0 : FVec F S32x4x512x512 .f32) : IVec S32x4x512x512 1 :=
  let main_v0 : FVec F S32x4x512x512 .f32 := Host.absf main_arg0
  let main_cst : FVec F S_ .f32 := constant S_ .f32 0x7F800000#32
  let main_v1 : FVec F S32x4x512x512 .f32 := broadcastInDim S32x4x512x512 ![] bcast_S_S32x4x512x512 main_cst
  let main_v2 : IVec S32x4x512x512 1 := cmpf .olt main_v0 main_v1
  main_v2
-- ==== Kernel.lean ====
abbrev S32x4x512x512 : Shape := ⟨4, ![32, 4, 512, 512]⟩
abbrev S128x512x512 : Shape := ⟨3, ![128, 512, 512]⟩
abbrev S512x512 : Shape := ⟨2, ![512, 512]⟩
abbrev S_ : Shape := ⟨0, ![]⟩
abbrev S1536x512 : Shape := ⟨2, ![1536, 512]⟩
abbrev S8x512x512 : Shape := ⟨3, ![8, 512, 512]⟩
abbrev S1x512x512 : Shape := ⟨3, ![1, 512, 512]⟩
abbrev S1x512 : Shape := ⟨2, ![1, 512]⟩
abbrev S511x512 : Shape := ⟨2, ![511, 512]⟩
abbrev S512x1536 : Shape := ⟨2, ![512, 1536]⟩
abbrev S1 : Shape := ⟨1, ![1]⟩
abbrev S1x1x1 : Shape := ⟨3, ![1, 1, 1]⟩

abbrev nBuf : Space → Nat
  | .hbm => 71
  | .vmem => 5
  | .smem => 0
  | _ => 0

abbrev bufTy : (tb : Table) → Fin (tcTables nBuf tb) → BufTy
  | .hbm, ⟨0, _⟩ => ⟨S32x4x512x512, .f32⟩
  | .hbm, ⟨1, _⟩ => ⟨S128x512x512, .f32⟩
  | .hbm, ⟨2, _⟩ => ⟨S512x512, .i32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i1⟩
  | .hbm, ⟨8, _⟩ => ⟨S512x512, .f32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .f32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S_, .f32⟩
  | .hbm, ⟨55, _⟩ => ⟨S512x512, .f32⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S1536x512, .f32⟩
  | .hbm, ⟨69, _⟩ => ⟨S1536x512, .bf16⟩
  | .hbm, ⟨70, _⟩ => ⟨S128x512x512, .f32⟩
  | .local _ .vmem, ⟨0, _⟩ => ⟨S8x512x512, .f32⟩
  | .local _ .vmem, ⟨1, _⟩ => ⟨S8x512x512, .f32⟩
  | .local _ .vmem, ⟨2, _⟩ => ⟨S1536x512, .bf16⟩
  | .local _ .vmem, ⟨3, _⟩ => ⟨S8x512x512, .f32⟩
  | .local _ .vmem, ⟨4, _⟩ => ⟨S8x512x512, .f32⟩
  | _, _ => ⟨S32x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x4x512x512 : Shape := ⟨4, ![32, 4, 512, 512]⟩
abbrev S_ : Shape := ⟨0, ![]⟩
abbrev S32x4x514x514 : Shape := ⟨4, ![32, 4, 514, 514]⟩
abbrev S32x4 : Shape := ⟨2, ![32, 4]⟩
abbrev S32x4x1x1 : Shape := ⟨4, ![32, 4, 1, 1]⟩
abbrev S128x512x512 : Shape := ⟨3, ![128, 512, 512]⟩

abbrev nBuf : Space → Nat
  | .hbm => 285
  | .vmem => 0
  | .smem => 0
  | _ => 0

abbrev hbmTy0_0 (i : Nat) : BufTy := match i % 128 with
  | 0 => ⟨S32x4x512x512, .f32⟩
  | 1 => ⟨S_, .i32⟩
  | 2 => ⟨S_, .f32⟩
  | 3 => ⟨S32x4x514x514, .f32⟩
  | 4 => ⟨S_, .f32⟩
  | 5 => ⟨S32x4x512x512, .f32⟩
  | 6 => ⟨S_, .f32⟩
  | 7 => ⟨S32x4x512x512, .f32⟩
  | 8 => ⟨S32x4x512x512, .f32⟩
  | 9 => ⟨S_, .f32⟩
  | 10 => ⟨S32x4x512x512, .f32⟩
  | 11 => ⟨S32x4x512x512, .f32⟩
  | 12 => ⟨S32x4x512x512, .f32⟩
  | 13 => ⟨S32x4x512x512, .f32⟩
  | 14 => ⟨S_, .f32⟩
  | 15 => ⟨S32x4x512x512, .f32⟩
  | 16 => ⟨S32x4x512x512, .f32⟩
  | 17 => ⟨S32x4x512x512, .f32⟩
  | 18 => ⟨S32x4x512x512, .f32⟩
  | 19 => ⟨S_, .f32⟩
  | 20 => ⟨S32x4x512x512, .f32⟩
  | 21 => ⟨S32x4x512x512, .f32⟩
  | 22 => ⟨S32x4x512x512, .f32⟩
  | 23 => ⟨S32x4x512x512, .f32⟩
  | 24 => ⟨S_, .f32⟩
  | 25 => ⟨S32x4x512x512, .f32⟩
  | 26 => ⟨S32x4x512x512, .f32⟩
  | 27 => ⟨S32x4x512x512, .f32⟩
  | 28 => ⟨S32x4x512x512, .f32⟩
  | 29 => ⟨S_, .f32⟩
  | 30 => ⟨S32x4x512x512, .f32⟩
  | 31 => ⟨S32x4x512x512, .f32⟩
  | 32 => ⟨S32x4x512x512, .f32⟩
  | 33 => ⟨S32x4x512x512, .f32⟩
  | 34 => ⟨S_, .f32⟩
  | 35 => ⟨S32x4x512x512, .f32⟩
  | 36 => ⟨S32x4x512x512, .f32⟩
  | 37 => ⟨S32x4x512x512, .f32⟩
  | 38 => ⟨S32x4x512x512, .f32⟩
  | 39 => ⟨S_, .f32⟩
  | 40 => ⟨S32x4x512x512, .f32⟩
  | 41 => ⟨S32x4x512x512, .f32⟩
  | 42 => ⟨S32x4x512x512, .f32⟩
  | 43 => ⟨S32x4x512x512, .f32⟩
  | 44 => ⟨S_, .f32⟩
  | 45 => ⟨S32x4x512x512, .f32⟩
  | 46 => ⟨S32x4x512x512, .f32⟩
  | 47 => ⟨S32x4x512x512, .f32⟩
  | 48 => ⟨S32x4x512x512, .f32⟩
  | 49 => ⟨S_, .f32⟩
  | 50 => ⟨S32x4x512x512, .f32⟩
  | 51 => ⟨S32x4x512x512, .f32⟩
  | 52 => ⟨S32x4x512x512, .f32⟩
  | 53 => ⟨S_, .f32⟩
  | 54 => ⟨S32x4x512x512, .f32⟩
  | 55 => ⟨S32x4x512x512, .f32⟩
  | 56 => ⟨S_, .f32⟩
  | 57 => ⟨S32x4x512x512, .f32⟩
  | 58 => ⟨S32x4x512x512, .f32⟩
  | 59 => ⟨S_, .f32⟩
  | 60 => ⟨S32x4x512x512, .f32⟩
  | 61 => ⟨S32x4x512x512, .f32⟩
  | 62 => ⟨S_, .f32⟩
  | 63 => ⟨S32x4x512x512, .f32⟩
  | 64 => ⟨S32x4x512x512, .f32⟩
  | 65 => ⟨S32x4x512x512, .f32⟩
  | 66 => ⟨S_, .f32⟩
  | 67 => ⟨S32x4x512x512, .f32⟩
  | 68 => ⟨S32x4x512x512, .f32⟩
  | 69 => ⟨S_, .f32⟩
  | 70 => ⟨S32x4x512x512, .f32⟩
  | 71 => ⟨S32x4x512x512, .f32⟩
  | 72 => ⟨S32x4x512x512, .f32⟩
  | 73 => ⟨S32x4x512x512, .f32⟩
  | 74 => ⟨S_, .f32⟩
  | 75 => ⟨S32x4x512x512, .f32⟩
  | 76 => ⟨S32x4x512x512, .f32⟩
  | 77 => ⟨S32x4x512x512, .f32⟩
  | 78 => ⟨S32x4x512x512, .f32⟩
  | 79 => ⟨S_, .f32⟩
  | 80 => ⟨S32x4x512x512, .f32⟩
  | 81 => ⟨S32x4x512x512, .f32⟩
  | 82 => ⟨S32x4x512x512, .f32⟩
  | 83 => ⟨S32x4x512x512, .f32⟩
  | 84 => ⟨S_, .f32⟩
  | 85 => ⟨S32x4x512x512, .f32⟩
  | 86 => ⟨S32x4x512x512, .f32⟩
  | 87 => ⟨S32x4x512x512, .f32⟩
  | 88 => ⟨S32x4x512x512, .f32⟩
  | 89 => ⟨S_, .f32⟩
  | 90 => ⟨S32x4x512x512, .f32⟩
  | 91 => ⟨S32x4x512x512, .f32⟩
  | 92 => ⟨S32x4x512x512, .f32⟩
  | 93 => ⟨S32x4x512x512, .f32⟩
  | 94 => ⟨S_, .f32⟩
  | 95 => ⟨S32x4x512x512, .f32⟩
  | 96 => ⟨S32x4x512x512, .f32⟩
  | 97 => ⟨S32x4x512x512, .f32⟩
  | 98 => ⟨S32x4x512x512, .f32⟩
  | 99 => ⟨S_, .f32⟩
  | 100 => ⟨S32x4x512x512, .f32⟩
  | 101 => ⟨S32x4x512x512, .f32⟩
  | 102 => ⟨S32x4x512x512, .f32⟩
  | 103 => ⟨S32x4x512x512, .f32⟩
  | 104 => ⟨S_, .f32⟩
  | 105 => ⟨S32x4x512x512, .f32⟩
  | 106 => ⟨S32x4x512x512, .f32⟩
  | 107 => ⟨S32x4x512x512, .f32⟩
  | 108 => ⟨S32x4x512x512, .f32⟩
  | 109 => ⟨S_, .f32⟩
  | 110 => ⟨S32x4x512x512, .f32⟩
  | 111 => ⟨S32x4x512x512, .f32⟩
  | 112 => ⟨S32x4x512x512, .f32⟩
  | 113 => ⟨S_, .f32⟩
  | 114 => ⟨S32x4x512x512, .f32⟩
  | 115 => ⟨S32x4x512x512, .f32⟩
  | 116 => ⟨S_, .f32⟩
  | 117 => ⟨S32x4x512x512, .f32⟩
  | 118 => ⟨S32x4x512x512, .f32⟩
  | 119 => ⟨S_, .f32⟩
  | 120 => ⟨S32x4x512x512, .f32⟩
  | 121 => ⟨S32x4x512x512, .f32⟩
  | 122 => ⟨S_, .f32⟩
  | 123 => ⟨S32x4x512x512, .f32⟩
  | 124 => ⟨S32x4x512x512, .f32⟩
  | 125 => ⟨S32x4x512x512, .f32⟩
  | 126 => ⟨S_, .f32⟩
  | 127 => ⟨S32x4x512x512, .f32⟩
  | _ => ⟨S32x4x512x512, .f32⟩

abbrev hbmTy0_1 (i : Nat) : BufTy := match i % 128 with
  | 0 => ⟨S32x4x512x512, .f32⟩
  | 1 => ⟨S_, .f32⟩
  | 2 => ⟨S32x4x512x512, .f32⟩
  | 3 => ⟨S32x4x512x512, .f32⟩
  | 4 => ⟨S32x4x512x512, .f32⟩
  | 5 => ⟨S32x4x512x512, .f32⟩
  | 6 => ⟨S_, .f32⟩
  | 7 => ⟨S32x4x512x512, .f32⟩
  | 8 => ⟨S32x4x512x512, .f32⟩
  | 9 => ⟨S32x4x512x512, .f32⟩
  | 10 => ⟨S32x4x512x512, .f32⟩
  | 11 => ⟨S_, .f32⟩
  | 12 => ⟨S32x4x512x512, .f32⟩
  | 13 => ⟨S32x4x512x512, .f32⟩
  | 14 => ⟨S32x4x512x512, .f32⟩
  | 15 => ⟨S32x4x512x512, .f32⟩
  | 16 => ⟨S_, .f32⟩
  | 17 => ⟨S32x4x512x512, .f32⟩
  | 18 => ⟨S32x4x512x512, .f32⟩
  | 19 => ⟨S32x4x512x512, .f32⟩
  | 20 => ⟨S32x4x512x512, .f32⟩
  | 21 => ⟨S_, .f32⟩
  | 22 => ⟨S32x4x512x512, .f32⟩
  | 23 => ⟨S32x4x512x512, .f32⟩
  | 24 => ⟨S32x4x512x512, .f32⟩
  | 25 => ⟨S32x4x512x512, .f32⟩
  | 26 => ⟨S_, .f32⟩
  | 27 => ⟨S32x4x512x512, .f32⟩
  | 28 => ⟨S32x4x512x512, .f32⟩
  | 29 => ⟨S32x4x512x512, .f32⟩
  | 30 => ⟨S32x4x512x512, .f32⟩
  | 31 => ⟨S_, .f32⟩
  | 32 => ⟨S32x4x512x512, .f32⟩
  | 33 => ⟨S32x4x512x512, .f32⟩
  | 34 => ⟨S32x4x512x512, .f32⟩
  | 35 => ⟨S32x4x512x512, .f32⟩
  | 36 => ⟨S_, .f32⟩
  | 37 => ⟨S32x4x512x512, .f32⟩
  | 38 => ⟨S32x4x512x512, .f32⟩
  | 39 => ⟨S32x4x512x512, .f32⟩
  | 40 => ⟨S32x4x512x512, .f32⟩
  | 41 => ⟨S_, .f32⟩
  | 42 => ⟨S32x4x512x512, .f32⟩
  | 43 => ⟨S32x4x512x512, .f32⟩
  | 44 => ⟨S32x4x512x512, .f32⟩
  | 45 => ⟨S_, .f32⟩
  | 46 => ⟨S32x4x512x512, .f32⟩
  | 47 => ⟨S32x4x512x512, .f32⟩
  | 48 => ⟨S_, .f32⟩
  | 49 => ⟨S32x4x512x512, .f32⟩
  | 50 => ⟨S32x4x512x512, .f32⟩
  | 51 => ⟨S_, .f32⟩
  | 52 => ⟨S32x4x512x512, .f32⟩
  | 53 => ⟨S32x4x512x512, .f32⟩
  | 54 => ⟨S_, .f32⟩
  | 55 => ⟨S32x4x512x512, .f32⟩
  | 56 => ⟨S32x4x512x512, .f32⟩
  | 57 => ⟨S32x4x512x512, .f32⟩
  | 58 => ⟨S_, .f32⟩
  | 59 => ⟨S32x4x512x512, .f32⟩
  | 60 => ⟨S32x4x512x512, .f32⟩
  | 61 => ⟨S_, .f32⟩
  | 62 => ⟨S32x4x512x512, .f32⟩
  | 63 => ⟨S32x4x512x512, .f32⟩
  | 64 => ⟨S32x4x512x512, .f32⟩
  | 65 => ⟨S32x4x512x512, .f32⟩
  | 66 => ⟨S_, .f32⟩
  | 67 => ⟨S32x4x512x512, .f32⟩
  | 68 => ⟨S32x4x512x512, .f32⟩
  | 69 => ⟨S32x4x512x512, .f32⟩
  | 70 => ⟨S32x4x512x512, .f32⟩
  | 71 => ⟨S_, .f32⟩
  | 72 => ⟨S32x4x512x512, .f32⟩
  | 73 => ⟨S32x4x512x512, .f32⟩
  | 74 => ⟨S32x4x512x512, .f32⟩
  | 75 => ⟨S32x4x512x512, .f32⟩
  | 76 => ⟨S_, .f32⟩
  | 77 => ⟨S32x4x512x512, .f32⟩
  | 78 => ⟨S32x4x512x512, .f32⟩
  | 79 => ⟨S32x4x512x512, .f32⟩
  | 80 => ⟨S32x4x512x512, .f32⟩
  | 81 => ⟨S_, .f32⟩
  | 82 => ⟨S32x4x512x512, .f32⟩
  | 83 => ⟨S32x4x512x512, .f32⟩
  | 84 => ⟨S32x4x512x512, .f32⟩
  | 85 => ⟨S32x4x512x512, .f32⟩
  | 86 => ⟨S_, .f32⟩
  | 87 => ⟨S32x4x512x512, .f32⟩
  | 88 => ⟨S32x4x512x512, .f32⟩
  | 89 => ⟨S32x4x512x512, .f32⟩
  | 90 => ⟨S32x4x512x512, .f32⟩
  | 91 => ⟨S_, .f32⟩
  | 92 => ⟨S32x4x512x512, .f32⟩
  | 93 => ⟨S32x4x512x512, .f32⟩
  | 94 => ⟨S32x4x512x512, .f32⟩
  | 95 => ⟨S32x4x512x512, .f32⟩
  | 96 => ⟨S_, .f32⟩
  | 97 => ⟨S32x4x512x512, .f32⟩
  | 98 => ⟨S32x4x512x512, .f32⟩
  | 99 => ⟨S32x4x512x512, .f32⟩
  | 100 => ⟨S32x4x512x512, .f32⟩
  | 101 => ⟨S_, .f32⟩
  | 102 => ⟨S32x4x512x512, .f32⟩
  | 103 => ⟨S32x4x512x512, .f32⟩
  | 104 => ⟨S32x4x512x512, .f32⟩
  | 105 => ⟨S_, .f32⟩
  | 106 => ⟨S32x4x512x512, .f32⟩
  | 107 => ⟨S32x4x512x512, .f32⟩
  | 108 => ⟨S_, .f32⟩
  | 109 => ⟨S32x4x512x512, .f32⟩
  | 110 => ⟨S32x4x512x512, .f32⟩
  | 111 => ⟨S_, .f32⟩
  | 112 => ⟨S32x4x512x512, .f32⟩
  | 113 => ⟨S32x4x512x512, .f32⟩
  | 114 => ⟨S_, .f32⟩
  | 115 => ⟨S32x4x512x512, .f32⟩
  | 116 => ⟨S32x4x512x512, .f32⟩
  | 117 => ⟨S32x4x512x512, .f32⟩
  | 118 => ⟨S_, .f32⟩
  | 119 => ⟨S32x4, .f32⟩
  | 120 => ⟨S32x4x1x1, .f32⟩
  | 121 => ⟨S_, .f32⟩
  | 122 => ⟨S32x4x1x1, .f32⟩
  | 123 => ⟨S32x4x1x1, .f32⟩
  | 124 => ⟨S_, .i32⟩
  | 125 => ⟨S_, .f32⟩
  | 126 => ⟨S32x4, .f32⟩
  | 127 => ⟨S32x4x1x1, .f32⟩
  | _ => ⟨S32x4x512x512, .f32⟩

abbrev hbmTy0_2 (i : Nat) : BufTy := match i % 128 with
  | 0 => ⟨S_, .f32⟩
  | 1 => ⟨S32x4x1x1, .f32⟩
  | 2 => ⟨S32x4x1x1, .f32⟩
  | 3 => ⟨S32x4x512x512, .f32⟩
  | 4 => ⟨S32x4x512x512, .f32⟩
  | 5 => ⟨S32x4x512x512, .f32⟩
  | 6 => ⟨S_, .f32⟩
  | 7 => ⟨S_, .f32⟩
  | 8 => ⟨S_, .f32⟩
  | 9 => ⟨S_, .f32⟩
  | 10 => ⟨S32x4, .f32⟩
  | 11 => ⟨S32x4x1x1, .f32⟩
  | 12 => ⟨S32x4x1x1, .f32⟩
  | 13 => ⟨S32x4x1x1, .f32⟩
  | 14 => ⟨S_, .f32⟩
  | 15 => ⟨S_, .i1⟩
  | 16 => ⟨S_, .f32⟩
  | 17 => ⟨S_, .f32⟩
  | 18 => ⟨S32x4x1x1, .f32⟩
  | 19 => ⟨S32x4x1x1, .f32⟩
  | 20 => ⟨S32x4x512x512, .f32⟩
  | 21 => ⟨S32x4x512x512, .f32⟩
  | 22 => ⟨S_, .f32⟩
  | 23 => ⟨S32x4x1x1, .f32⟩
  | 24 => ⟨S32x4x1x1, .f32⟩
  | 25 => ⟨S32x4x1x1, .f32⟩
  | 26 => ⟨S32x4x512x512, .f32⟩
  | 27 => ⟨S32x4x512x512, .f32⟩
  | 28 => ⟨S128x512x512, .f32⟩
  | _ => ⟨S32x4x512x512, .f32⟩

abbrev hbmTy (i : Nat) : BufTy := match i / 128 with
  | 0 => hbmTy0_0 i
  | 1 => hbmTy0_1 i
  | 2 => hbmTy0_2 i
  | _ => ⟨S32x4x512x512, .f32⟩

abbrev bufTy : (tb : Table) → Fin (tcTables nBuf tb) → BufTy
  | .hbm, ⟨i, _⟩ => hbmTy i
  | _, _ => ⟨S32x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_14 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_18 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_20 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_21 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_22 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_23 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_24 : Ref sig .tc := ⟨.hbm, 113, rfl⟩
abbrev main_v85 : Ref sig .tc := ⟨.hbm, 114, rfl⟩
abbrev main_v86 : Ref sig .tc := ⟨.hbm, 115, rfl⟩
abbrev main_cst_25 : Ref sig .tc := ⟨.hbm, 116, rfl⟩
abbrev main_v87 : Ref sig .tc := ⟨.hbm, 117, rfl⟩
abbrev main_v88 : Ref sig .tc := ⟨.hbm, 118, rfl⟩
abbrev main_cst_26 : Ref sig .tc := ⟨.hbm, 119, rfl⟩
abbrev main_v89 : Ref sig .tc := ⟨.hbm, 120, rfl⟩
abbrev main_v90 : Ref sig .tc := ⟨.hbm, 121, rfl⟩
abbrev main_cst_27 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_28 : Ref sig .tc := ⟨.hbm, 126, rfl⟩
abbrev main_v94 : Ref sig .tc := ⟨.hbm, 127, rfl⟩
abbrev main_v95 : Ref sig .tc := ⟨.hbm, 128, rfl⟩
abbrev main_cst_29 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_30 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_31 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_32 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_33 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_34 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_35 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_36 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_37 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_38 : Ref sig .tc := ⟨.hbm, 173, rfl⟩
abbrev main_v131 : Ref sig .tc := ⟨.hbm, 174, rfl⟩
abbrev main_v132 : Ref sig .tc := ⟨.hbm, 175, rfl⟩
abbrev main_cst_39 : Ref sig .tc := ⟨.hbm, 176, rfl⟩
abbrev main_v133 : Ref sig .tc := ⟨.hbm, 177, rfl⟩
abbrev main_v134 : Ref sig .tc := ⟨.hbm, 178, rfl⟩
abbrev main_cst_40 : Ref sig .tc := ⟨.hbm, 179, rfl⟩
abbrev main_v135 : Ref sig .tc := ⟨.hbm, 180, rfl⟩
abbrev main_v136 : Ref sig .tc := ⟨.hbm, 181, rfl⟩
abbrev main_cst_41 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_42 : Ref sig .tc := ⟨.hbm, 186, rfl⟩
abbrev main_v140 : Ref sig .tc := ⟨.hbm, 187, rfl⟩
abbrev main_v141 : Ref sig .tc := ⟨.hbm, 188, rfl⟩
abbrev main_cst_43 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_44 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_45 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_46 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_47 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_48 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_49 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_50 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_51 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_52 : Ref sig .tc := ⟨.hbm, 233, rfl⟩
abbrev main_v177 : Ref sig .tc := ⟨.hbm, 234, rfl⟩
abbrev main_v178 : Ref sig .tc := ⟨.hbm, 235, rfl⟩
abbrev main_cst_53 : Ref sig .tc := ⟨.hbm, 236, rfl⟩
abbrev main_v179 : Ref sig .tc := ⟨.hbm, 237, rfl⟩
abbrev main_v180 : Ref sig .tc := ⟨.hbm, 238, rfl⟩
abbrev main_cst_54 : Ref sig .tc := ⟨.hbm, 239, rfl⟩
abbrev main_v181 : Ref sig .tc := ⟨.hbm, 240, rfl⟩
abbrev main_v182 : Ref sig .tc := ⟨.hbm, 241, rfl⟩
abbrev main_cst_55 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_56 : Ref sig .tc := ⟨.hbm, 246, rfl⟩
abbrev main_v186 : Ref sig .tc := ⟨.hbm, 247, rfl⟩
abbrev main_v187 : Ref sig .tc := ⟨.hbm, 248, rfl⟩
abbrev main_cst_57 : Ref sig .tc := ⟨.hbm, 249, rfl⟩
abbrev main_v188 : Ref sig .tc := ⟨.hbm, 250, rfl⟩
abbrev main_v189 : Ref sig .tc := ⟨.hbm, 251, rfl⟩
abbrev main_c_58 : Ref sig .tc := ⟨.hbm, 252, rfl⟩
abbrev main_call1_cst : Ref sig .tc := ⟨.hbm, 253, rfl⟩
abbrev main_call1_v0 : Ref sig .tc := ⟨.hbm, 254, rfl⟩
abbrev main_call1_v1 : Ref sig .tc := ⟨.hbm, 255, rfl⟩
abbrev main_call1_cst_0 : Ref sig .tc := ⟨.hbm, 256, rfl⟩
abbrev main_call1_v2 : Ref sig .tc := ⟨.hbm, 257, rfl⟩
abbrev main_call1_v3 : Ref sig .tc := ⟨.hbm, 258, rfl⟩
abbrev main_call1_v4 : Ref sig .tc := ⟨.hbm, 259, rfl⟩
abbrev main_call1_v5 : Ref sig .tc := ⟨.hbm, 260, rfl⟩
abbrev main_call1_v6 : Ref sig .tc := ⟨.hbm, 261, rfl⟩
abbrev main_call1_v7 : Ref sig .tc := ⟨.hbm, 262, rfl⟩
abbrev main_call1_cst_1 : Ref sig .tc := ⟨.hbm, 263, rfl⟩
abbrev main_call1_v8 : Ref sig .tc := ⟨.hbm, 264, rfl⟩
abbrev main_call1_cst_2 : Ref sig .tc := ⟨.hbm, 265, rfl⟩
abbrev main_call1_v9 : Ref sig .tc := ⟨.hbm, 266, rfl⟩
abbrev main_call1_v10 : Ref sig .tc := ⟨.hbm, 267, rfl⟩
abbrev main_call1_v11 : Ref sig .tc := ⟨.hbm, 268, rfl⟩
abbrev main_call1_v12 : Ref sig .tc := ⟨.hbm, 269, rfl⟩
abbrev main_call1_cst_3 : Ref sig .tc := ⟨.hbm, 270, rfl⟩
abbrev main_call1_v13 : Ref sig .tc := ⟨.hbm, 271, rfl⟩
abbrev main_call1_cst_4 : Ref sig .tc := ⟨.hbm, 272, rfl⟩
abbrev main_call1_call0_v0 : Ref sig .tc := ⟨.hbm, 273, rfl⟩
abbrev main_call1_call0_v1 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_cst_59 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩

abbrev nD : Nat := 1
abbrev τ : Topo := Topo.v7x

variable {F : FTy → Type} [FloatOps F]
-- ==== Proof.RealMath.lean ====
/-
  The problem's mathematics over the reals, free of any program: the zero-bordered plane, the nine-tap stencil the four
  edge maps add up to, and the fact that normalising by mean and variance does not see an affine change of the values.
-/
module

public import Mathlib.Data.EReal.Operations
public import Mathlib.Analysis.Real.Sqrt
public import Mathlib.Algebra.BigOperators.Fin
public import Mathlib.Tactic.Ring
public import Mathlib.Tactic.FieldSimp
public import Mathlib.Tactic.Linarith
public import Mathlib.Tactic.Positivity

@[expose] public section

noncomputable section

namespace Cert.Lines

open Finset

/-- One image plane of 512 rows and 512 columns. -/
abbrev Plane := Fin 512 → Fin 512 → ℝ

/-- The plane with a border of zeros one entry wide: row `r` and column `c` count from the border, so the plane's own
    entries are those with both coordinates from 1 to 512. -/
def padded (X : Plane) (r c : ℕ) : ℝ :=
  if h : (1 ≤ r ∧ r ≤ 512) ∧ (1 ≤ c ∧ c ≤ 512) then X ⟨r - 1, by omega⟩ ⟨c - 1, by omega⟩ else 0

/-- Inside the border the padded plane is the plane. -/
theorem padded_inside (X : Plane) (r c : Fin 512) : padded X (r + 1) (c + 1) = X r c := by
  rw [padded, dif_pos (by omega)]; rfl

/-- The top border row is zero. -/
theorem padded_row_top (X : Plane) (c : ℕ) : padded X 0 c = 0 := by rw [padded, dif_neg (by omega)]
/-- The bottom border row is zero. -/
theorem padded_row_bot (X : Plane) (c : ℕ) : padded X 513 c = 0 := by rw [padded, dif_neg (by omega)]
/-- The left border column is zero. -/
theorem padded_col_left (X : Plane) (r : ℕ) : padded X r 0 = 0 := by rw [padded, dif_neg (by omega)]
/-- The right border column is zero. -/
theorem padded_col_right (X : Plane) (r : ℕ) : padded X r 513 = 0 := by rw [padded, dif_neg (by omega)]

/-- Three neighbours of a row of the padded plane, weighted. -/
def rowTaps (a b z : ℝ) (g : ℕ → ℝ) (c : ℕ) : ℝ := a * g c + b * g (c + 1) + z * g (c + 2)

/-- The stencil: the four three-by-three kernels, each with its weight, added into one. -/
def stencil (X : Plane) (r c : ℕ) : ℝ :=
  rowTaps (-4 / 15) (-2 / 15) (-1 / 15) (padded X r) c
    + rowTaps (-1 / 30) 1 (-1 / 30) (padded X (r + 1)) c
    + rowTaps (-1 / 15) (-2 / 15) (-4 / 15) (padded X (r + 2)) c

/-- The weight a band table has at row `j`, column `c`: `a` on the diagonal above, `b` on the main one, `z` below. -/
def band (a b z : ℝ) (j c : ℕ) : ℝ :=
  a * (if j + 1 = c then 1 else 0) + b * (if j = c then 1 else 0) + z * (if j = c + 1 then 1 else 0)

/-- A sum against an indicator picks one term, or nothing when the term is outside the range. -/
theorem sum_indicator (h : ℕ → ℝ) (k : ℕ) :
    ∑ j : Fin 512, h j * (if (j : ℕ) = k then 1 else 0) = if k < 512 then h k else 0 := by
  rw [Fin.sum_univ_eq_sum_range (fun j => h j * (if j = k then 1 else 0)) 512]
  simp

/-- A row against a band table is the row's three weighted neighbours: the border's zeros stand where the table's
    diagonals leave it. -/
theorem sum_band (a b z : ℝ) (g : ℕ → ℝ) (h0 : g 0 = 0) (h513 : g 513 = 0) (c : Fin 512) :
    ∑ j : Fin 512, g (j + 1) * band a b z j c = rowTaps a b z g c := by
  have hsplit : ∀ j : Fin 512, g (j + 1) * band a b z j c
      = a * (g (j + 1) * (if (j : ℕ) + 1 = c then 1 else 0)) + b * (g (j + 1) * (if (j : ℕ) = c then 1 else 0))
        + z * (g (j + 1) * (if (j : ℕ) = c + 1 then 1 else 0)) := fun j => by rw [band]; ring
  simp only [hsplit, sum_add_distrib, ← mul_sum]
  have e1 : ∑ j : Fin 512, g (j + 1) * (if (j : ℕ) + 1 = c then 1 else 0) = g c := by
    obtain ⟨c, hc⟩ := c
    cases c with
    | zero => simp [h0]
    | succ k =>
      simp only [Nat.add_right_cancel_iff]
      rw [sum_indicator (fun j => g (j + 1)) k, if_pos (by omega)]
  have e2 : ∑ j : Fin 512, g (j + 1) * (if (j : ℕ) = c then 1 else 0) = g (c + 1) := by
    rw [sum_indicator (fun j => g (j + 1)) c, if_pos c.isLt]
  have e3 : ∑ j : Fin 512, g (j + 1) * (if (j : ℕ) = c + 1 then 1 else 0) = g (c + 2) := by
    rw [sum_indicator (fun j => g (j + 1)) (c + 1)]
    by_cases hc : (c : ℕ) + 1 < 512
    · rw [if_pos hc]
    · rw [if_neg hc, show (c : ℕ) + 2 = 513 by omega, h513]
  rw [e1, e2, e3, rowTaps]

/-! ## Normalising a plane -/

/-- The mean over a plane. -/
def mean (S : Plane) : ℝ := (∑ r, ∑ c, S r c) / 262144

/-- The mean of the squares less the square of the mean. -/
def spread (S : Plane) : ℝ := mean (fun r c => S r c * S r c) - mean S * mean S

/-- The mean squared distance from the mean. -/
def variance (S : Plane) : ℝ := mean fun r c => (S r c - mean S) * (S r c - mean S)

/-- A plane less its mean, times the reciprocal root of its spread plus `e`. -/
def normalised (e : ℝ) (S : Plane) : Plane := fun r c => (S r c - mean S) * (√(spread S + e))⁻¹

/-- The mean of an affine image is the affine image of the mean. -/
theorem mean_affine (S : Plane) (a b : ℝ) : mean (fun r c => a * S r c + b) = a * mean S + b := by
  simp only [mean, sum_add_distrib, ← mul_sum, sum_const, card_univ, Fintype.card_fin, nsmul_eq_mul]
  push_cast; ring

/-- The two ways of writing the variance agree. -/
theorem variance_eq_spread (S : Plane) : variance S = spread S := by
  have h : ∀ r c, (S r c - mean S) * (S r c - mean S)
      = S r c * S r c + ((-2 * mean S) * S r c + mean S * mean S) := fun r c => by ring
  have e := mean_affine S (-2 * mean S) (mean S * mean S)
  have hadd : mean (fun r c => S r c * S r c + ((-2 * mean S) * S r c + mean S * mean S))
      = mean (fun r c => S r c * S r c) + mean (fun r c => (-2 * mean S) * S r c + mean S * mean S) := by
    simp only [mean, sum_add_distrib, add_div]
  rw [variance, spread]
  simp only [h]
  rw [hadd, e]; ring

/-- A variance is not negative. -/
theorem variance_nonneg (S : Plane) : 0 ≤ variance S :=
  div_nonneg (sum_nonneg fun _ _ => sum_nonneg fun _ _ => mul_self_nonneg _) (by norm_num)

/-- A spread is not negative. -/
theorem spread_nonneg (S : Plane) : 0 ≤ spread S := variance_eq_spread S ▸ variance_nonneg S

/-- Half of a plane plus one: the range from −1 to 1 moved to the range from 0 to 1. -/
def halved (S : Plane) : Plane := fun r c => (S r c + 1) / 2

/-- The mean of the halved plane. -/
theorem mean_halved (S : Plane) : mean (halved S) = (mean S + 1) / 2 := by
  have e := mean_affine S (1 / 2) (1 / 2)
  rw [show halved S = fun r c => 1 / 2 * S r c + 1 / 2 from funext fun r => funext fun c => by rw [halved]; ring, e]
  ring

/-- The variance of the halved plane is a quarter of the plane's. -/
theorem variance_halved (S : Plane) : variance (halved S) = spread S / 4 := by
  rw [← variance_eq_spread, variance, variance, mean_halved]
  have h : ∀ r c, (halved S r c - (mean S + 1) / 2) * (halved S r c - (mean S + 1) / 2)
      = 1 / 4 * ((S r c - mean S) * (S r c - mean S)) + 0 := fun r c => by rw [halved]; ring
  simp only [h]
  rw [mean_affine (fun r c => (S r c - mean S) * (S r c - mean S))]
  ring

/-- Normalising the halved plane with a quarter of `e` is normalising the plane with `e`: the shift leaves with the
    mean and the factor one half cancels against the root's. -/
theorem normalised_halved (S : Plane) (e e' : ℝ) (he : e' = 4 * e) (hpos : 0 < e) (r c : Fin 512) :
    (halved S r c - mean (halved S)) * (√(variance (halved S) + e))⁻¹ = normalised e' S r c := by
  have hv := spread_nonneg S
  have hroot : √(spread S + e') = 2 * √(variance (halved S) + e) := by
    rw [variance_halved, show spread S + e' = 2 ^ 2 * (spread S / 4 + e) by rw [he]; ring,
      Real.sqrt_mul (by norm_num), Real.sqrt_sq (by norm_num)]
  have hne : √(variance (halved S) + e) ≠ 0 := by
    have := variance_nonneg (halved S)
    exact (Real.sqrt_pos.2 (by linarith)).ne'
  rw [normalised, hroot, mean_halved, halved]
  field_simp
  ring

/-! ## Sums of reals among the extended reals -/

/-- A finite sum of real numbers is the same number whether added as reals or as extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum over 1536 terms is three sums over 512, one after another. -/
theorem sum_three {M : Type*} [AddCommMonoid M] (f : Fin 1536 → M) :
    ∑ k, f k = ∑ j : Fin 512, f ⟨j, by omega⟩ + ∑ j : Fin 512, f ⟨512 + j, by omega⟩
      + ∑ j : Fin 512, f ⟨1024 + j, by omega⟩ :=
  (Fin.sum_univ_add (a := 1024) (b := 512) f).trans
    (congrArg (· + _) (Fin.sum_univ_add (a := 512) (b := 512) fun i => f (Fin.castAdd 512 i)))

end Cert.Lines
-- ==== Proof.Plane.lean ====
/-
  One plane of the kernel on finite data. The kernel stacks a plane with its two row-shifted copies, multiplies the
  stack by the band table and normalises the product. Here: the product is the nine-tap stencil of the plane, and the
  normalisation subtracts the mean and multiplies by the reciprocal root of the spread.
-/
module

public import proofs.«01_k».proof.Proof.RealMath
public import proofs.«01_k».proof.Proof.Gen.KernelIdeal.Value
public import Idealize.ShloMosaic.Lib.MatmulPlain
public import Idealize.ShloMosaic.Lib.ValueIdx
public import Idealize.ShloMosaic.Lib.ValueLayout
public import Idealize.ShloMosaic.PureOps.Ideal.Laws

@[expose] public section

noncomputable section

namespace Cert.Lines

open Idealize.ShloMosaic Idealize.ShloMosaic.TcCoe Idealize.SL.Sem Idealize.ShloMosaic.ValueIdx
open Cert.KernelIdeal Cert.KernelIdeal.Gen

/-! ## The constants -/

/-- The number of entries of a plane. -/
theorem ofBits_count : Ideal.ofBits .f32 0x48800000#32 = ((262144 : ℝ) : EReal) := by
  simp [Ideal.ofBits, Ideal.ieee, -EReal.coe_mul]; norm_num

/-- The reference's small number, about one hundred-thousandth. -/
def small : ℝ := 10995116 / 2 ^ 40

/-- The reference's small number is positive. -/
theorem small_pos : 0 < small := by unfold small; positivity

/-- The reference's small number as its word reads. -/
theorem ofBits_small : Ideal.ofBits .f32 0x3727C5AC#32 = ((small : ℝ) : EReal) := by
  unfold small
  simp [Ideal.ofBits, Ideal.ieee, -EReal.coe_mul]; norm_num

/-- The kernel's small number is exactly four times the reference's. -/
theorem ofBits_small4 : Ideal.ofBits .f32 0x3827C5AC#32 = ((4 * small : ℝ) : EReal) := by
  unfold small
  simp [Ideal.ofBits, Ideal.ieee, -EReal.coe_mul]; norm_num

/-- A quotient of two real numbers whose divisor is not zero is the real quotient. -/
theorem div_real (a b : ℝ) (hb : b ≠ 0) : Ideal.div (a : EReal) (b : EReal) = ((a / b : ℝ) : EReal) := by
  rw [Ideal.div_coe hb, ← EReal.coe_mul]; congr 1; ring

/-- The reciprocal root of a positive real number. -/
theorem rsqrt_real (a : ℝ) (ha : 0 < a) : Ideal.rsqrt (a : EReal) = (((√a)⁻¹ : ℝ) : EReal) := by
  show (if a < 0 then ⊥ else if a = 0 then ⊤ else (((√a)⁻¹ : ℝ) : EReal)) = _
  rw [if_neg (by linarith), if_neg ha.ne']

/-! ## The stack of a plane and its two shifted copies -/

/-- A one-row block over the other 511 rows: row 0 reads the block, row `r + 1` the other rows' row `r`. -/
theorem stack_below (z : S1x512.Idx → EReal) (x : S511x512.Idx → EReal)
    (h : Shape.Concatenates [S1x512, S511x512] S512x512 0) (r c : Fin 512) :
    concatenate S512x512 0 [⟨S1x512, z⟩, ⟨S511x512, x⟩] h (ix2 r c)
      = if hr : (r : ℕ) = 0 then z (ix2 0 c) else x (ix2 ⟨r - 1, by omega⟩ c) := by
  by_cases hr : (r : ℕ) = 0
  · rw [dif_pos hr]
    exact concatenate_pair_apply_left 0 z x h (ix2 r c) rfl (ix2 0 c) fun b => by
      match b with
      | ⟨0, _⟩ => exact hr.symm
      | ⟨1, _⟩ => rfl
  · rw [dif_neg hr]
    refine concatenate_pair_apply_right 0 z x h (ix2 r c) rfl rfl (ix2 ⟨r - 1, by omega⟩ c) (fun b hb => ?_) ?_
    · match b with
      | ⟨0, _⟩ => exact absurd rfl hb
      | ⟨1, _⟩ => rfl
    · show (r : ℕ) - 1 + 1 = r
      omega

/-- The first 511 rows over a one-row block: row `r` reads those rows, row 511 the block. -/
theorem stack_above (z : S1x512.Idx → EReal) (x : S511x512.Idx → EReal)
    (h : Shape.Concatenates [S511x512, S1x512] S512x512 0) (r c : Fin 512) :
    concatenate S512x512 0 [⟨S511x512, x⟩, ⟨S1x512, z⟩] h (ix2 r c)
      = if hr : (r : ℕ) < 511 then x (ix2 ⟨r, hr⟩ c) else z (ix2 0 c) := by
  by_cases hr : (r : ℕ) < 511
  · rw [dif_pos hr]
    exact concatenate_pair_apply_left 0 x z h (ix2 r c) rfl (ix2 ⟨r, hr⟩ c) fun b => by
      match b with
      | ⟨0, _⟩ => rfl
      | ⟨1, _⟩ => rfl
  · rw [dif_neg hr]
    refine concatenate_pair_apply_right 0 x z h (ix2 r c) rfl rfl (ix2 0 c) (fun b hb => ?_) ?_
    · match b with
      | ⟨0, _⟩ => exact absurd rfl hb
      | ⟨1, _⟩ => rfl
    · show 0 + 511 = (r : ℕ)
      omega

/-- Three square blocks side by side: the block `d` holds columns `512 d` to `512 d + 511`. -/
theorem side_by_side (x : Fin 3 → S512x512.Idx → EReal)
    (h : Shape.Concatenates [S512x512, S512x512, S512x512] S512x1536 1) (d : Fin 3) (r j : Fin 512) (k : Fin 1536)
    (hk : (k : ℕ) = 512 * d + j) :
    concatenate S512x1536 1 [⟨S512x512, x 0⟩, ⟨S512x512, x 1⟩, ⟨S512x512, x 2⟩] h (ix2 r k) = x d (ix2 r j) := by
  refine concatenate_apply_piece (1 : Fin S512x1536.rank) [⟨S512x512, x 0⟩, ⟨S512x512, x 1⟩, ⟨S512x512, x 2⟩] h (ix2 r k) d ?_ S512x512 (x d) ?_ rfl (512 * d) ?_ (ix2 r j) (fun b hb => ?_) ?_
  · exact d.isLt
  · match d with
    | ⟨0, _⟩ => rfl
    | ⟨1, _⟩ => rfl
    | ⟨2, _⟩ => rfl
  · match d with
    | ⟨0, _⟩ => rfl
    | ⟨1, _⟩ => rfl
    | ⟨2, _⟩ => rfl
  · match b with
    | ⟨0, _⟩ => rfl
    | ⟨1, _⟩ => exact absurd rfl hb
  · show 512 * (d : ℕ) + j = k
    omega

/-! ## The stencil as one product -/

/-- The real number a band table has in block `d` of its rows. -/
def tableRow (d : Fin 3) (j c : ℕ) : ℝ :=
  match d with
  | ⟨0, _⟩ => band (-4 / 15) (-2 / 15) (-1 / 15) j c
  | ⟨1, _⟩ => band (-1 / 30) 1 (-1 / 30) j c
  | ⟨2, _⟩ => band (-1 / 15) (-2 / 15) (-4 / 15) j c

/-- The table is the three band blocks, one under another. -/
def IsTable (t : FVec Ideal S1536x512 .bf16) : Prop :=
  ∀ (d : Fin 3) (j c : Fin 512) (k : Fin 1536), (k : ℕ) = 512 * d + j → t (ix2 k c) = ((tableRow d j c : ℝ) : EReal)

/-- The block holds the real plane `X`. -/
def Holds (x : Vec Ideal S1x512x512 .f32) (X : Plane) : Prop := ∀ r c : Fin 512, x (ix3 0 r c) = ((X r c : ℝ) : EReal)

/-- The product of the stack with the table is the stencil. -/
theorem product_apply (t : FVec Ideal S1536x512 .bf16) (x : Vec Ideal S1x512x512 .f32) (X : Plane) (ht : IsTable t)
    (hx : Holds x X) (r c : Fin 512) : k0_pay7 t x (ix2 r c) = ((stencil X r c : ℝ) : EReal) := by
  -- the plane without its leading axis
  have hflat : ∀ (h : S1x512x512.ShapeCasts S512x512) (i j : Fin 512),
      shapeCast S512x512 x h (ix2 i j) = ((padded X (i + 1) (j + 1) : ℝ) : EReal) := fun h i j => by
    rw [padded_inside, ← hx i j]; exact shapeCast_1ab_ab_apply x h i j
  -- the three copies, each a row of the padded plane
  unfold k0_pay7
  have hprod := Ideal.matmul_plain_apply (M := 512) (K := 1536) (N := 512) (φ₁ := .bf16) (φ₂ := .bf16) none
  refine (hprod _ _ _ r c).trans ?_
  rw [show constant (F := Ideal) S512x512 .f32 0x00000000#32 (ix2 r c) = 0 from Ideal.ofBits_zero_f32, zero_add, sum_three]
  have hzero : ∀ i, broadcast S1x512 (Scalar.ofBits (F := Ideal) .f32 0x00000000#32) i = ((0 : ℝ) : EReal) :=
    fun i => Ideal.ofBits_zero_f32
  have hpiece : ∀ (x : Fin 3 → S512x512.Idx → EReal) (d : Fin 3), (∀ j : Fin 512, x d (ix2 r j) = ((padded X (r + d) (j + 1) : ℝ) : EReal)) →
      ∀ (h : Shape.Concatenates [S512x512, S512x512, S512x512] S512x1536 1) (k : Fin 512 → Fin 1536), (∀ j, (k j : ℕ) = 512 * d + j) →
      ∑ j : Fin 512, concatenate S512x1536 1 [⟨S512x512, x 0⟩, ⟨S512x512, x 1⟩, ⟨S512x512, x 2⟩] h (ix2 r (k j)) * t (ix2 (k j) c)
        = ((∑ j : Fin 512, padded X (r + d) (j + 1) * tableRow d j c : ℝ) : EReal) := fun y d hy h k hk => by
    rw [coe_sum]
    refine Finset.sum_congr rfl fun j _ => ?_
    rw [side_by_side y h d r j (k j) (hk j), ht d j c (k j) (hk j), hy j, EReal.coe_mul]
  have hstencil : stencil X r c = (∑ j : Fin 512, padded X (r + (0 : Fin 3)) (j + 1) * tableRow 0 j c)
      + (∑ j : Fin 512, padded X (r + (1 : Fin 3)) (j + 1) * tableRow 1 j c)
      + (∑ j : Fin 512, padded X (r + (2 : Fin 3)) (j + 1) * tableRow 2 j c) := by
    rw [stencil]
    refine congrArg₂ (· + ·) (congrArg₂ (· + ·) ?_ ?_) ?_ <;>
      exact (sum_band _ _ _ _ (padded_col_left X _) (padded_col_right X _) c).symm
  rw [hstencil, EReal.coe_add, EReal.coe_add]
  let y : Fin 3 → S512x512.Idx → EReal := ![
    concatenate S512x512 0 [⟨S1x512, broadcast S1x512 (Scalar.ofBits (F := Ideal) .f32 0x00000000#32)⟩,
      ⟨S511x512, extractStridedSlice S511x512 ![0, 0] (shapeCast S512x512 x shapeCasts_S1x512x512_S512x512) slices_S512x512_o0_0_S511x512⟩]
      concatenates_S1x512_S511x512_S512x512_d0,
    shapeCast S512x512 x shapeCasts_S1x512x512_S512x512,
    concatenate S512x512 0 [⟨S511x512, extractStridedSlice S511x512 ![1, 0] (shapeCast S512x512 x shapeCasts_S1x512x512_S512x512)
      slices_S512x512_o1_0_S511x512⟩, ⟨S1x512, broadcast S1x512 (Scalar.ofBits (F := Ideal) .f32 0x00000000#32)⟩]
      concatenates_S511x512_S1x512_S512x512_d0]
  refine congrArg₂ (· + ·) (congrArg₂ (· + ·)
    (hpiece y 0 (fun j => ?_) concatenates_S512x512_S512x512_S512x512_S512x1536_d1 _ fun j => ?_)
    (hpiece y 1 (fun j => ?_) concatenates_S512x512_S512x512_S512x512_S512x1536_d1 _ fun j => ?_))
    (hpiece y 2 (fun j => ?_) concatenates_S512x512_S512x512_S512x512_S512x1536_d1 _ fun j => ?_)
  · refine (stack_below _ _ concatenates_S1x512_S511x512_S512x512_d0 r j).trans ?_
    by_cases hr : (r : ℕ) = 0
    · rw [dif_pos hr, hzero, show (r : ℕ) + (0 : Fin 3) = 0 from hr, padded_row_top]
    · rw [dif_neg hr]
      refine (slice2_axis0_apply 0 _ _ _ j ⟨r - 1, by omega⟩ (by simp)).trans ?_
      rw [hflat]
      show ((padded X ((r : ℕ) - 1 + 1) (j + 1) : ℝ) : EReal) = ((padded X (r + 0) (j + 1) : ℝ) : EReal)
      rw [show (r : ℕ) - 1 + 1 = r + 0 by omega]
  · simp
  · exact hflat _ r j
  · simp
  · refine (stack_above _ _ concatenates_S511x512_S1x512_S512x512_d0 r j).trans ?_
    by_cases hr : (r : ℕ) < 511
    · rw [dif_pos hr]
      refine (slice2_axis0_apply 1 _ _ _ j ⟨r + 1, by omega⟩ (by simp [Nat.add_comm])).trans ?_
      rw [hflat]; rfl
    · rw [dif_neg hr, hzero, show (r : ℕ) + ((2 : Fin 3) : ℕ) = 513 by have := r.isLt; show (r : ℕ) + 2 = 513; omega, padded_row_bot]
  · simp

/-! ## The normalisation -/

/-- The kernel's total over a plane, read where the kernel reads it. -/
theorem total_apply (s : FVec Ideal S512x512 .f32) (S : Plane) (hs : ∀ r c : Fin 512, s (ix2 r c) = ((S r c : ℝ) : EReal)) :
    extractAt ![0, 0, 0] (shapeCast S1x1x1 (multiReduction (F := Ideal) .add [1, 2] S1
      (shapeCast S1x512x512 s shapeCasts_S512x512_S1x512x512) 0x00000000#32 reduces_S1x512x512_S1 (.inl rfl) rfl)
      shapeCasts_S1_S1x1x1) inpos_S1x1x1_p0_0_0 = ((∑ r, ∑ c, S r c : ℝ) : EReal) := by
  unfold extractAt shapeCast
  refine (Ideal.multiReduction_add_total _ _ _ (fun b => ?_) _ _ _).trans ?_
  · match b with | ⟨0, _⟩ => rfl
  · refine (Equiv.sum_comp (Shape.reshapeEquiv shapeCasts_S512x512_S1x512x512) s).trans ?_
    rw [sum_idx2, coe_sum]
    refine Finset.sum_congr rfl fun r _ => ?_
    rw [coe_sum]
    exact Finset.sum_congr rfl fun c _ => hs r c

/-- The kernel's normalisation of a plane of real numbers. -/
theorem normalise_apply (s : FVec Ideal S512x512 .f32) (S : Plane) (hs : ∀ r c : Fin 512, s (ix2 r c) = ((S r c : ℝ) : EReal))
    (r c : Fin 512) : k0_pay9 s (shapeCast S1x512x512 s shapeCasts_S512x512_S1x512x512) (ix3 0 r c)
      = ((normalised (4 * small) S r c : ℝ) : EReal) := by
  have hsq : ∀ r c : Fin 512, mulf s s (ix2 r c) = ((S r c * S r c : ℝ) : EReal) := fun r c => by
    rw [mulf_apply, hs, EReal.coe_mul]
  have hcount : (262144 : ℝ) ≠ 0 := by norm_num
  have hpos : 0 < spread S + 4 * small := by have := spread_nonneg S; have := small_pos; linarith
  unfold k0_pay9
  refine (shapeCast_ab_1ab_apply _ _ 0 r c).trans ?_
  rw [mulf_apply, subf_apply, broadcast_apply, broadcast_apply, total_apply s S hs, total_apply _ _ hsq, hs]
  show (_ - Ideal.div _ (Ideal.ofBits .f32 0x48800000#32)) * Ideal.rsqrt (Ideal.div _ (Ideal.ofBits .f32 0x48800000#32)
    - Ideal.div _ (Ideal.ofBits .f32 0x48800000#32) * Ideal.div _ (Ideal.ofBits .f32 0x48800000#32)
      + Ideal.ofBits .f32 0x3827C5AC#32) = _
  rw [ofBits_count, ofBits_small4, div_real _ _ hcount, div_real _ _ hcount, ← EReal.coe_mul, ← EReal.coe_sub, ← EReal.coe_sub,
    ← EReal.coe_add]
  refine (congrArg (_ * ·) (rsqrt_real _ hpos)).trans ?_
  rw [← EReal.coe_mul]
  rfl

/-- One plane of the kernel: the stencil of the plane, normalised. -/
theorem plane_apply (t : FVec Ideal S1536x512 .bf16) (x : Vec Ideal S1x512x512 .f32) (X : Plane) (ht : IsTable t)
    (hx : Holds x X) (r c : Fin 512) :
    k0_pay16 t x (ix3 0 r c) = ((normalised (4 * small) (fun r c => stencil X r c) r c : ℝ) : EReal) :=
  normalise_apply (k0_pay7 t x) (fun r c => stencil X r c) (product_apply t x X ht hx) r c

end Cert.Lines
-- ==== Proof.Weights.lean ====
/-
  What the host lays down before the kernel is launched: the planes one after another, and the table of three bands,
  each band three diagonals of small integers divided by a common number.
-/
module

public import proofs.«01_k».proof.Proof.Plane
public import Idealize.ShloMosaic.Lib.StableHlo.RunRead
public import Idealize.ShloMosaic.Lib.IdealHost

@[expose] public section

noncomputable section

namespace Cert.Lines

open Idealize.ShloMosaic Idealize.ShloMosaic.TcCoe Idealize.SL.Sem Idealize.ShloMosaic.ValueIdx
open Cert.KernelIdeal Cert.KernelIdeal.Gen

/-! ## A constant and a diagonal -/

/-- A square filled with one constant. -/
def fill (v : BitVec 32) : FVec Ideal S512x512 .f32 := broadcastInDim S512x512 ![] bcast_S_S512x512 (constant S_ .f32 v)

/-- A filled square reads its constant everywhere. -/
theorem fill_apply (v : BitVec 32) (i : S512x512.Idx) : fill v i = Ideal.ofBits .f32 v := rfl

/-- The diagonal on which the row's number plus `k` is the column's. -/
def diagonal (k : BitVec 32) : FVec Ideal S512x512 .f32 :=
  uitofp .f32 (cmpi .eq (addi (iotaInDim S512x512 32 0) (broadcastInDim S512x512 ![] bcast_S_S512x512 (constantI S_ 32 k)))
    (iotaInDim S512x512 32 1))

/-- A diagonal is one where its equation of words holds and zero elsewhere. -/
theorem diagonal_apply (k : BitVec 32) (p : Prop) [Decidable p] (r c : Fin 512)
    (hp : BitVec.ofNat 32 r + k = BitVec.ofNat 32 c ↔ p) :
    diagonal k (ix2 r c) = (((if p then 1 else 0 : ℝ)) : EReal) := by
  show (((BitVec.ofBool (BitVec.ofNat 32 r + k == BitVec.ofNat 32 c)).toNat : ℝ) : EReal) = _
  by_cases h : p
  · rw [if_pos h, hp.2 h]; simp
  · rw [if_neg h, beq_eq_false_iff_ne.2 (fun e => h (hp.1 e))]; simp

/-- The diagonal above the main one. -/
theorem diagonal_above (r c : Fin 512) : diagonal 1#32 (ix2 r c) = ((if (r : ℕ) + 1 = c then 1 else 0 : ℝ) : EReal) :=
  diagonal_apply _ _ r c (by have := r.isLt; have := c.isLt; rw [← BitVec.toNat_inj]; simp; omega)

/-- The main diagonal. -/
theorem diagonal_main (r c : Fin 512) : diagonal 0#32 (ix2 r c) = ((if (r : ℕ) = c then 1 else 0 : ℝ) : EReal) :=
  diagonal_apply _ _ r c (by have := r.isLt; have := c.isLt; rw [← BitVec.toNat_inj]; simp; omega)

/-- The diagonal below the main one: adding the word of all ones takes one away. -/
theorem diagonal_below (r c : Fin 512) : diagonal 4294967295#32 (ix2 r c) = ((if (r : ℕ) = c + 1 then 1 else 0 : ℝ) : EReal) := by
  refine diagonal_apply _ _ r c ?_
  have hone : (4294967295#32 : BitVec 32) + 1#32 = 0#32 := by decide
  have hmove : BitVec.ofNat 32 r + 4294967295#32 = BitVec.ofNat 32 c ↔ BitVec.ofNat 32 r = BitVec.ofNat 32 c + 1#32 := by
    constructor
    · intro h
      rw [← h, BitVec.add_assoc, hone, BitVec.add_zero]
    · intro h
      rw [h, BitVec.add_assoc, BitVec.add_comm 1#32, hone, BitVec.add_zero]
  have := r.isLt
  have := c.isLt
  rw [hmove, ← BitVec.toNat_inj]
  simp
  omega

/-! ## The three bands -/

/-- The word of minus four. -/
theorem ofBits_neg4 : Ideal.ofBits .f32 0xC0800000#32 = ((-4 : ℝ) : EReal) := by
  simp [Ideal.ofBits, Ideal.ieee, -EReal.coe_mul]; norm_num
/-- The word of minus two. -/
theorem ofBits_neg2 : Ideal.ofBits .f32 0xC0000000#32 = ((-2 : ℝ) : EReal) := by
  simp [Ideal.ofBits, Ideal.ieee, -EReal.coe_mul]; norm_num
/-- The word of minus one. -/
theorem ofBits_neg1 : Ideal.ofBits .f32 0xBF800000#32 = ((-1 : ℝ) : EReal) := by
  simp [Ideal.ofBits, Ideal.ieee, -EReal.coe_mul]; norm_num
/-- The word of one. -/
theorem ofBits_1 : Ideal.ofBits .f32 0x3F800000#32 = ((1 : ℝ) : EReal) := by
  simp [Ideal.ofBits, Ideal.ieee, -EReal.coe_mul]; norm_num
/-- The word of fifteen. -/
theorem ofBits_15 : Ideal.ofBits .f32 0x41700000#32 = ((15 : ℝ) : EReal) := by
  simp [Ideal.ofBits, Ideal.ieee, -EReal.coe_mul]; norm_num
/-- The word of thirty. -/
theorem ofBits_30 : Ideal.ofBits .f32 0x41F00000#32 = ((30 : ℝ) : EReal) := by
  simp [Ideal.ofBits, Ideal.ieee, -EReal.coe_mul]; norm_num

/-- A band for the row above or below: three diagonals added up, the sum divided by 15. -/
def outerBand (a b z : BitVec 32) : FVec Ideal S512x512 .f32 :=
  Host.divf (addf (addf (mulf (fill a) (diagonal 1#32)) (mulf (fill b) (diagonal 0#32)))
    (mulf (fill z) (diagonal 4294967295#32))) (fill 0x41700000#32)

/-- The band for the row itself: its outer diagonals are divided by 30, its main one is not. -/
def innerBand : FVec Ideal S512x512 .f32 :=
  addf (addf (Host.divf (mulf (fill 0xBF800000#32) (diagonal 1#32)) (fill 0x41F00000#32))
    (mulf (fill 0x3F800000#32) (diagonal 0#32)))
    (Host.divf (mulf (fill 0xBF800000#32) (diagonal 4294967295#32)) (fill 0x41F00000#32))

/-- An outer band's entries: its three integers over 15. -/
theorem outerBand_apply (a b z : BitVec 32) (a' b' z' : ℝ) (ha : Ideal.ofBits .f32 a = (a' : EReal))
    (hb : Ideal.ofBits .f32 b = (b' : EReal)) (hz : Ideal.ofBits .f32 z = (z' : EReal)) (r c : Fin 512) :
    outerBand a b z (ix2 r c) = ((band (a' / 15) (b' / 15) (z' / 15) r c : ℝ) : EReal) := by
  rw [outerBand, hostDivf_apply, addf_apply, addf_apply, mulf_apply, mulf_apply, mulf_apply, diagonal_above, diagonal_main,
    diagonal_below, fill_apply, fill_apply, fill_apply, fill_apply, ha, hb, hz, ofBits_15, ← EReal.coe_mul, ← EReal.coe_mul,
    ← EReal.coe_mul, ← EReal.coe_add, ← EReal.coe_add, div_real _ _ (by norm_num), band]
  congr 1; ring

/-- The inner band's entries. -/
theorem innerBand_apply (r c : Fin 512) : innerBand (ix2 r c) = ((band (-1 / 30) 1 (-1 / 30) r c : ℝ) : EReal) := by
  rw [innerBand, addf_apply, addf_apply, hostDivf_apply, hostDivf_apply, mulf_apply, mulf_apply, mulf_apply, diagonal_above,
    diagonal_main, diagonal_below, fill_apply, fill_apply, fill_apply, ofBits_neg1, ofBits_1, ofBits_30, ← EReal.coe_mul,
    ← EReal.coe_mul, ← EReal.coe_mul, div_real _ _ (by norm_num), div_real _ _ (by norm_num), ← EReal.coe_add,
    ← EReal.coe_add, band]
  congr 1; ring

/-- Three square blocks one under another: the block `d` holds rows `512 d` to `512 d + 511`. -/
theorem one_under_another (x : Fin 3 → S512x512.Idx → EReal)
    (h : Shape.Concatenates [S512x512, S512x512, S512x512] S1536x512 0) (d : Fin 3) (j c : Fin 512) (k : Fin 1536)
    (hk : (k : ℕ) = 512 * d + j) :
    concatenate S1536x512 0 [⟨S512x512, x 0⟩, ⟨S512x512, x 1⟩, ⟨S512x512, x 2⟩] h (ix2 k c) = x d (ix2 j c) := by
  refine concatenate_apply_piece (0 : Fin S1536x512.rank) [⟨S512x512, x 0⟩, ⟨S512x512, x 1⟩, ⟨S512x512, x 2⟩] h (ix2 k c) d
    d.isLt S512x512 (x d) ?_ rfl (512 * d) ?_ (ix2 j c) (fun b hb => ?_) ?_
  · match d with
    | ⟨0, _⟩ => rfl
    | ⟨1, _⟩ => rfl
    | ⟨2, _⟩ => rfl
  · match d with
    | ⟨0, _⟩ => rfl
    | ⟨1, _⟩ => rfl
    | ⟨2, _⟩ => rfl
  · match b with
    | ⟨0, _⟩ => exact absurd rfl hb
    | ⟨1, _⟩ => rfl
  · show 512 * (d : ℕ) + j = k
    omega

/-- The three bands in their order. -/
def bands : Fin 3 → S512x512.Idx → EReal :=
  ![outerBand 0xC0800000#32 0xC0000000#32 0xBF800000#32, innerBand, outerBand 0xBF800000#32 0xC0000000#32 0xC0800000#32]

/-- Each band holds the weights of its row of the stencil. -/
theorem bands_apply (d : Fin 3) (j c : Fin 512) : bands d (ix2 j c) = ((tableRow d j c : ℝ) : EReal) := by
  match d with
  | ⟨0, _⟩ => exact outerBand_apply _ _ _ _ _ _ ofBits_neg4 ofBits_neg2 ofBits_neg1 j c
  | ⟨1, _⟩ => exact innerBand_apply j c
  | ⟨2, _⟩ => exact outerBand_apply _ _ _ _ _ _ ofBits_neg1 ofBits_neg2 ofBits_neg4 j c

/-! ## The two arrays the launch reads -/

variable (m : (ℓ : Loc nD τ sig) → Buf (Elt Ideal) ℓ) (c : Dev nD)

/-- The table in memory is the three bands, one under another. -/
theorem table_read : @Eq (FVec Ideal S1536x512 .bf16) (V m c main_v52)
    (truncf .bf16 (concatenate S1536x512 0 [⟨S512x512, bands 0⟩, ⟨S512x512, bands 1⟩, ⟨S512x512, bands 2⟩]
        concatenates_S512x512_S512x512_S512x512_S1536x512_d0 : FVec Ideal S1536x512 .f32) bitsLt_bf16_f32) := by
  have h0 : @Eq (FVec Ideal S512x512 .f32) (StableHlo.upto hostOps0 (fun b => m (c, b)) 67 (Proc.tc.devRef main_v28)) (bands 0) := by
    after_reads_simp
    rfl
  have h1 : @Eq (FVec Ideal S512x512 .f32) (StableHlo.upto hostOps0 (fun b => m (c, b)) 67 (Proc.tc.devRef main_v40)) (bands 1) := by
    after_reads_simp
    rfl
  have h2 : @Eq (FVec Ideal S512x512 .f32) (StableHlo.upto hostOps0 (fun b => m (c, b)) 67 (Proc.tc.devRef main_v50)) (bands 2) := by
    after_reads_simp
    rfl
  rw [← h0, ← h1, ← h2]
  unfold V
  after_reads_simp
  rfl

/-- The table in memory holds the stencil's weights. -/
theorem table_isTable : IsTable (V m c main_v52) := fun d j k' k hk => by
  rw [table_read m c]
  exact (one_under_another bands concatenates_S512x512_S512x512_S512x512_S1536x512_d0 d j k' k hk).trans (bands_apply d j k')

/-- The planes in memory are the argument's entries in the same order, image and channel counted as one. -/
theorem planes_read (b : Fin 32) (ch : Fin 4) (r k : Fin 512) (p : Fin 128) (hp : (p : ℕ) = 4 * b + ch) :
    (V m c main_v0 : Vec Ideal S128x512x512 .f32) (ix3 p r k)
      = (m (c.tc.loc main_arg0) : Vec Ideal S32x4x512x512 .f32) (ix4 b ch r k) := by
  have h : (V m c main_v0 : Vec Ideal S128x512x512 .f32)
      = shapeCast S128x512x512 (m (c.tc.loc main_arg0) : Vec Ideal S32x4x512x512 .f32) shapeCasts_S32x4x512x512_S128x512x512 := by
    unfold V
    after_reads_simp
    rfl
  rw [h]
  refine shapeCast_apply (s := S32x4x512x512) (t := S128x512x512) _ _ _ _ ?_
  rw [Shape.rowMajor_val_four, Shape.rowMajor_val_three]
  show (((b : ℕ) * 4 + ch) * 512 + r) * 512 + k = ((p : ℕ) * 512 + r) * 512 + k
  rw [hp]; ring

end Cert.Lines
-- ==== Proof.RefEdges.lean ====
/-
  The reference's sum of four edge maps on finite data. Each map is nine shifted copies of the zero-bordered image, each
  times its weight, summed, moved from [-1, 1] to [0, 1] and scaled; the four maps together are the stencil, halved.
-/
module

public import proofs.«01_k».proof.Proof.Weights
public import proofs.«01_k».proof.Proof.Gen.ReferenceIdeal.Read
public import Idealize.ShloMosaic.Lib.KernelVsHost
public import Idealize.ShloMosaic.Lib.IdealHost

@[expose] public section

noncomputable section

namespace Cert.Lines

open Idealize.ShloMosaic Idealize.ShloMosaic.TcCoe Idealize.SL.Sem Idealize.ShloMosaic.ValueIdx
open Cert.ReferenceIdeal Cert.ReferenceIdeal.Gen Cert.ReferenceIdeal.Read

/-! ## The zero-bordered image -/

/-- The images as real planes, one for each batch entry and channel. -/
abbrev Images := Fin 32 → Fin 4 → Plane

/-- The array holds the real images `X`. -/
def Shows (x : Vec Ideal S32x4x512x512 .f32) (X : Images) : Prop :=
  ∀ b ch r c, x (ix4 b ch r c) = ((X b ch r c : ℝ) : EReal)

/-- The array holds the real images `X` with a border of zeros. -/
def ShowsPadded (p : Vec Ideal S32x4x514x514 .f32) (X : Images) : Prop :=
  ∀ b ch r c, p (ix4 b ch r c) = ((padded (X b ch) r c : ℝ) : EReal)

/-- The padded array holds the padded planes. -/
theorem pad_shows (x : Vec Ideal S32x4x512x512 .f32) (X : Images) (hx : Shows x X) :
    ShowsPadded (val_main_v0 (F := Ideal) x) X := fun b ch r c => by
  unfold val_main_v0
  have hborder : val_main_call0_v0 (F := Ideal) (Shape.Idx.first h_S_) = ((0 : ℝ) : EReal) := by
    show ((((0#32 : BitVec 32).toInt : ℤ) : ℝ) : EReal) = _
    simp
  by_cases hr : 1 ≤ (r : ℕ) ∧ (r : ℕ) ≤ 512
  · by_cases hc : 1 ≤ (c : ℕ) ∧ (c : ℕ) ≤ 512
    · rw [padded, dif_pos ⟨hr, hc⟩, ← hx]
      exact pad_apply_of_inside _ _ _ x _ _ _ _ _ fun a => by
        match a with
        | ⟨0, _⟩ => show (b : ℕ) = 0 + b * 1; omega
        | ⟨1, _⟩ => show (ch : ℕ) = 0 + ch * 1; omega
        | ⟨2, _⟩ => show (r : ℕ) = 1 + (r - 1) * 1; omega
        | ⟨3, _⟩ => show (c : ℕ) = 1 + (c - 1) * 1; omega
    · rw [padded, dif_neg fun h => hc h.2, ← hborder]
      refine pad_apply_of_not_inside _ _ _ x _ _ _ _ (3 : Fin 4) fun h => hc ?_
      have h1 : 1 ≤ (c : ℕ) := h.1
      have h2 : ((c : ℕ) - 1) / 1 < 512 := h.2.2
      omega
  · rw [padded, dif_neg fun h => hr h.1, ← hborder]
    refine pad_apply_of_not_inside _ _ _ x _ _ _ _ (2 : Fin 4) fun h => hr ?_
    have h1 : 1 ≤ (r : ℕ) := h.1
    have h2 : ((r : ℕ) - 1) / 1 < 512 := h.2.2
    omega

/-! ## One edge map -/

/-- One number in every entry. -/
abbrev full (w : BitVec 32) : FVec Ideal S32x4x512x512 .f32 :=
  broadcastInDim S32x4x512x512 ![] bcast_S_S32x4x512x512 (constant (F := Ideal) S_ .f32 w)

/-- Every entry reads the number. -/
theorem full_apply (w : BitVec 32) (i : S32x4x512x512.Idx) : full w i = Ideal.ofBits .f32 w :=
  broadcastInDim_scalar_apply _ _ i

/-- A running sum with the next tap added: a weight times the image shifted by `di` rows and `dj` columns. -/
abbrev tap (p : FVec Ideal S32x4x514x514 .f32) (w : BitVec 32) (di dj : ℕ)
    (h : S32x4x514x514.Slices ![0, 0, di, dj] S32x4x512x512) (acc : FVec Ideal S32x4x512x512 .f32) :
    FVec Ideal S32x4x512x512 .f32 :=
  addf acc (mulf (full w) (extractStridedSlice S32x4x512x512 ![0, 0, di, dj] p h))

/-- One step of the running sum, on real numbers. -/
theorem tap_apply (p : FVec Ideal S32x4x514x514 .f32) (X : Images) (hp : ShowsPadded p X) (w : BitVec 32) (v : ℝ)
    (hw : Ideal.ofBits .f32 w = ((v : ℝ) : EReal)) (di dj : ℕ)
    (h : S32x4x514x514.Slices ![0, 0, di, dj] S32x4x512x512) (acc : FVec Ideal S32x4x512x512 .f32)
    (b : Fin 32) (ch : Fin 4) (r c : Fin 512) (a : ℝ) (hdi : di ≤ 2) (hdj : dj ≤ 2)
    (hacc : acc (ix4 b ch r c) = ((a : ℝ) : EReal)) :
    tap p w di dj h acc (ix4 b ch r c) = ((a + v * padded (X b ch) (r + di) (c + dj) : ℝ) : EReal) := by
  have hslice : extractStridedSlice S32x4x512x512 ![0, 0, di, dj] p h (ix4 b ch r c)
      = ((padded (X b ch) (r + di) (c + dj) : ℝ) : EReal) := by
    refine (extractStridedSlice_apply _ p h _ (ix4 b ch (⟨r + di, by omega⟩ : Fin 514) (⟨c + dj, by omega⟩ : Fin 514)) fun d => ?_).trans
      (hp b ch _ _)
    match d with
    | ⟨0, _⟩ => exact (Nat.zero_add _).symm
    | ⟨1, _⟩ => exact (Nat.zero_add _).symm
    | ⟨2, _⟩ => exact Nat.add_comm _ _
    | ⟨3, _⟩ => exact Nat.add_comm _ _
  show acc _ + full w _ * _ = _
  rw [hacc, full_apply, hw, hslice, ← EReal.coe_mul, ← EReal.coe_add]

/-- The nine taps of one three-by-three kernel `w`, row by row. -/
abbrev nineTaps (p : FVec Ideal S32x4x514x514 .f32) (w : Fin 3 → Fin 3 → BitVec 32) : FVec Ideal S32x4x512x512 .f32 :=
  tap p (w 2 2) 2 2 slices_S32x4x514x514_S32x4x512x512_0_0_2_2 <|
  tap p (w 2 1) 2 1 slices_S32x4x514x514_S32x4x512x512_0_0_2_1 <|
  tap p (w 2 0) 2 0 slices_S32x4x514x514_S32x4x512x512_0_0_2_0 <|
  tap p (w 1 2) 1 2 slices_S32x4x514x514_S32x4x512x512_0_0_1_2 <|
  tap p (w 1 1) 1 1 slices_S32x4x514x514_S32x4x512x512_0_0_1_1 <|
  tap p (w 1 0) 1 0 slices_S32x4x514x514_S32x4x512x512_0_0_1_0 <|
  tap p (w 0 2) 0 2 slices_S32x4x514x514_S32x4x512x512_0_0_0_2 <|
  tap p (w 0 1) 0 1 slices_S32x4x514x514_S32x4x512x512_0_0_0_1 <|
  tap p (w 0 0) 0 0 slices_S32x4x514x514_S32x4x512x512_0_0_0_0 <|
  full 0x00000000#32

/-- A three-by-three kernel `v` over the padded plane. -/
def response (v : Fin 3 → Fin 3 → ℝ) (X : Plane) (r c : ℕ) : ℝ :=
  ∑ di : Fin 3, ∑ dj : Fin 3, v di dj * padded X (r + di) (c + dj)

/-- The nine taps are the kernel's response. -/
theorem nineTaps_apply (p : FVec Ideal S32x4x514x514 .f32) (X : Images) (hp : ShowsPadded p X)
    (w : Fin 3 → Fin 3 → BitVec 32) (v : Fin 3 → Fin 3 → ℝ) (hw : ∀ i j, Ideal.ofBits .f32 (w i j) = ((v i j : ℝ) : EReal))
    (b : Fin 32) (ch : Fin 4) (r c : Fin 512) :
    nineTaps p w (ix4 b ch r c) = ((response v (X b ch) r c : ℝ) : EReal) := by
  have h0 : full 0x00000000#32 (ix4 b ch r c) = ((0 : ℝ) : EReal) := (full_apply _ _).trans Ideal.ofBits_zero_f32
  have step := fun i j di dj h acc a => tap_apply p X hp (w i j) (v i j) (hw i j) di dj h acc b ch r c a
  refine (step 2 2 2 2 _ _ _ (by omega) (by omega) <|
    step 2 1 2 1 _ _ _ (by omega) (by omega) <| step 2 0 2 0 _ _ _ (by omega) (by omega) <|
    step 1 2 1 2 _ _ _ (by omega) (by omega) <| step 1 1 1 1 _ _ _ (by omega) (by omega) <|
    step 1 0 1 0 _ _ _ (by omega) (by omega) <| step 0 2 0 2 _ _ _ (by omega) (by omega) <|
    step 0 1 0 1 _ _ _ (by omega) (by omega) <| step 0 0 0 0 _ _ _ (by omega) (by omega) h0).trans ?_
  congr 1
  simp only [response, Fin.sum_univ_three, Fin.val_zero, Fin.val_one, Fin.val_two]
  ring

/-- One edge map: the nine taps plus one, halved, times a scale, over fifteen. -/
abbrev edgeMap (p : FVec Ideal S32x4x514x514 .f32) (w : Fin 3 → Fin 3 → BitVec 32) (s : BitVec 32) :
    FVec Ideal S32x4x512x512 .f32 :=
  Host.divf (mulf (mulf (addf (nineTaps p w) (full 0x3F800000#32)) (full 0x3F000000#32)) (full s)) (full 0x41700000#32)

/-- The word of one half. -/
theorem ofBits_half : Ideal.ofBits .f32 0x3F000000#32 = ((1 / 2 : ℝ) : EReal) := by
  simp [Ideal.ofBits, Ideal.ieee, -EReal.coe_mul]; norm_num
/-- The word of two. -/
theorem ofBits_two : Ideal.ofBits .f32 0x40000000#32 = ((2 : ℝ) : EReal) := by
  simp [Ideal.ofBits, Ideal.ieee, -EReal.coe_mul]; norm_num
/-- The word of four. -/
theorem ofBits_four : Ideal.ofBits .f32 0x40800000#32 = ((4 : ℝ) : EReal) := by
  simp [Ideal.ofBits, Ideal.ieee, -EReal.coe_mul]; norm_num
/-- The word of eight. -/
theorem ofBits_eight : Ideal.ofBits .f32 0x41000000#32 = ((8 : ℝ) : EReal) := by
  simp [Ideal.ofBits, Ideal.ieee, -EReal.coe_mul]; norm_num
/-- The word of minus one half. -/
theorem ofBits_negHalf : Ideal.ofBits .f32 0xBF000000#32 = ((-1 / 2 : ℝ) : EReal) := by
  simp [Ideal.ofBits, Ideal.ieee, -EReal.coe_mul, neg_div]; norm_num

/-- An edge map at an index. -/
theorem edgeMap_apply (p : FVec Ideal S32x4x514x514 .f32) (X : Images) (hp : ShowsPadded p X)
    (w : Fin 3 → Fin 3 → BitVec 32) (v : Fin 3 → Fin 3 → ℝ) (hw : ∀ i j, Ideal.ofBits .f32 (w i j) = ((v i j : ℝ) : EReal))
    (s : BitVec 32) (z : ℝ) (hs : Ideal.ofBits .f32 s = ((z : ℝ) : EReal)) (b : Fin 32) (ch : Fin 4) (r c : Fin 512) :
    edgeMap p w s (ix4 b ch r c) = (((response v (X b ch) r c + 1) * (1 / 2) * z / 15 : ℝ) : EReal) := by
  show Ideal.div ((nineTaps p w _ + full _ _) * full _ _ * full _ _) (full _ _) = _
  rw [nineTaps_apply p X hp w v hw, full_apply, full_apply, full_apply, full_apply, ofBits_1, ofBits_half, ofBits_15, hs,
    ← EReal.coe_add, ← EReal.coe_mul, ← EReal.coe_mul, div_real _ _ (by norm_num)]

/-! ## The four edge maps -/

/-- A kernel with one in the middle, minus one half at `(i, j)` and at the place opposite, zero elsewhere: its words. -/
def lineWords (i j : Fin 3) : Fin 3 → Fin 3 → BitVec 32 := fun k l =>
  if k = 1 ∧ l = 1 then 0x3F800000#32 else if (k = i ∧ l = j) ∨ (k = i.rev ∧ l = j.rev) then 0xBF000000#32 else 0x00000000#32

/-- The same kernel's weights. -/
def lineKernel (i j : Fin 3) : Fin 3 → Fin 3 → ℝ := fun k l =>
  if k = 1 ∧ l = 1 then 1 else if (k = i ∧ l = j) ∨ (k = i.rev ∧ l = j.rev) then -1 / 2 else 0

/-- The words are the weights. -/
theorem lineWords_read (i j k l : Fin 3) : Ideal.ofBits .f32 (lineWords i j k l) = ((lineKernel i j k l : ℝ) : EReal) := by
  unfold lineWords lineKernel
  split_ifs
  · exact ofBits_1
  · exact ofBits_negHalf
  · exact Ideal.ofBits_zero_f32

/-- The reference's sum is the four edge maps: horizontal, anti-diagonal, vertical, diagonal. -/
theorem sum_is_maps (x : Vec Ideal S32x4x512x512 .f32) :
    @Eq (FVec Ideal S32x4x512x512 .f32) (val_main_v185 (F := Ideal) x)
      (addf (addf (addf (addf (full 0x00000000#32)
        (edgeMap (val_main_v0 (F := Ideal) x) (lineWords 1 0) 0x3F800000#32))
        (edgeMap (val_main_v0 (F := Ideal) x) (lineWords 0 2) 0x40000000#32))
        (edgeMap (val_main_v0 (F := Ideal) x) (lineWords 0 1) 0x40800000#32))
        (edgeMap (val_main_v0 (F := Ideal) x) (lineWords 0 0) 0x41000000#32)) := rfl

/-- The four responses, scaled and added, are the halved stencil. -/
theorem maps_are_stencil (X : Plane) (r c : Fin 512) :
    0 + (response (lineKernel 1 0) X r c + 1) * (1 / 2) * 1 / 15 + (response (lineKernel 0 2) X r c + 1) * (1 / 2) * 2 / 15
        + (response (lineKernel 0 1) X r c + 1) * (1 / 2) * 4 / 15 + (response (lineKernel 0 0) X r c + 1) * (1 / 2) * 8 / 15
      = halved (fun r c => stencil X r c) r c := by
  simp [halved, stencil, rowTaps, response, lineKernel, Fin.sum_univ_three, Fin.rev]
  ring

/-- The reference's sum of edge maps at an index. -/
theorem sum_apply (x : Vec Ideal S32x4x512x512 .f32) (X : Images) (hx : Shows x X) (b : Fin 32) (ch : Fin 4) (r c : Fin 512) :
    val_main_v185 (F := Ideal) x (ix4 b ch r c) = ((halved (fun r c => stencil (X b ch) r c) r c : ℝ) : EReal) := by
  have hmap := fun i j s z hs => edgeMap_apply _ X (pad_shows x X hx) (lineWords i j) (lineKernel i j) (lineWords_read i j) s z hs b ch r c
  rw [sum_is_maps, ← maps_are_stencil]
  show full _ _ + _ + _ + _ + _ = _
  rw [full_apply, hmap 1 0 _ _ ofBits_1, hmap 0 2 _ _ ofBits_two, hmap 0 1 _ _ ofBits_four, hmap 0 0 _ _ ofBits_eight,
    Ideal.ofBits_zero_f32, ← EReal.coe_zero, ← EReal.coe_add, ← EReal.coe_add, ← EReal.coe_add, ← EReal.coe_add]

end Cert.Lines

end
-- ==== Proof.Block.lean ====
/-
  The kernel's result array on finite data: every grid point normalises the stencils of its eight planes, and the sixteen
  points' blocks tile the array, so the array holds each plane's normalised stencil.
-/
module

public import proofs.«01_k».proof.Proof.Weights
public import Idealize.ShloMosaic.Lib.Pipeline.ValueKit

@[expose] public section

noncomputable section

namespace Cert.Lines

open Idealize.ShloMosaic hiding ix2 ix3 eq_ix2 eq_ix3
open Idealize.ShloMosaic.TcCoe Idealize.SL.Sem Idealize.ShloMosaic.ValueIdx
open Cert.KernelIdeal Cert.KernelIdeal.Gen

/-- The normalised stencil of each of `n` planes, as an array. -/
def edges {n : ℕ} (Y : Fin n → Plane) : (⟨3, ![n, 512, 512]⟩ : Shape).Idx → EReal := fun y =>
  ((normalised (4 * small) (fun r c => stencil (Y (y 0)) r c) (y 1) (y 2) : ℝ) : EReal)

/-! ## One grid point -/

section Point
variable (x0 : Vec Ideal S8x512x512 .f32) (Y : Fin 8 → Plane)

/-- The load of plane `q` of a block holds that plane. -/
theorem load_holds (hx : ∀ (q : Fin 8) (r c : Fin 512), x0 (ix3 q r c) = ((Y q r c : ℝ) : EReal)) (q : Fin 8)
    (inb : ∀ a, (![(q : ℕ), 0, 0] : Fin 3 → ℕ) a + S1x512x512.size a ≤ S8x512x512.size a) :
    Holds (View.ld (Val := Elt Ideal) (e' := .f32) x0 (Rect.unit (s := S8x512x512) ![(q : ℕ), 0, 0] S1x512x512.size inb)) (Y q) := fun r c => by
  refine (View.ld_unit_apply_of x0 _ _ inb (ix3 (0 : Fin 1) r c) (ix3 q r c) fun a => ?_).trans (hx q r c)
  match a with
  | ⟨0, _⟩ => rfl
  | ⟨1, _⟩ => exact (Nat.zero_add _).symm
  | ⟨2, _⟩ => exact (Nat.zero_add _).symm

/-- What is stored for plane `q` is that plane of the point's result. -/
theorem piece_apply (t : FVec Ideal S1536x512 .bf16) (ht : IsTable t)
    (hx : ∀ (q : Fin 8) (r c : Fin 512), x0 (ix3 q r c) = ((Y q r c : ℝ) : EReal)) (q : Fin 8)
    (inb : ∀ a, (![(q : ℕ), 0, 0] : Fin 3 → ℕ) a + S1x512x512.size a ≤ S8x512x512.size a)
    (x : (Rect.unit (s := S8x512x512) ![(q : ℕ), 0, 0] S1x512x512.size inb).shape.Idx) :
    k0_pay16 t (View.ld (Val := Elt Ideal) (e' := .f32) x0 (Rect.unit (s := S8x512x512) ![(q : ℕ), 0, 0] S1x512x512.size inb)) x
      = edges Y ((Rect.unit (s := S8x512x512) ![(q : ℕ), 0, 0] S1x512x512.size inb).emb x) := by
  obtain ⟨z, r, c, rfl⟩ : ∃ (z : Fin 1) (r c : Fin 512), x = ix3 z r c := ⟨x 0, x 1, x 2, eq_ix3 x⟩
  obtain rfl : z = 0 := Subsingleton.elim _ _
  have hemb : (Rect.unit (s := S8x512x512) ![(q : ℕ), 0, 0] S1x512x512.size inb).emb (ix3 (0 : Fin 1) r c) = ix3 q r c :=
    funext fun a => Fin.ext ((Rect.idx_unit_val _ _ inb _ a).trans (by
      match a with
      | ⟨0, _⟩ => rfl
      | ⟨1, _⟩ => exact Nat.zero_add _
      | ⟨2, _⟩ => exact Nat.zero_add _))
  rw [hemb]
  exact plane_apply t _ (Y q) ht (load_holds x0 Y hx q inb) r c

/-- The block a grid point leaves: the normalised stencils of its eight planes. -/
theorem block_apply (x1 : Vec Ideal S1536x512 .bf16) (ht : IsTable x1)
    (hx : ∀ (q : Fin 8) (r c : Fin 512), x0 (ix3 q r c) = ((Y q r c : ℝ) : EReal)) (y : S8x512x512.Idx) :
    out0_2 x0 x1 y = edges Y y := by
  have htable : k0_pay22 x0 x1 = x1 := by
    have hload : View.ld (Val := Elt Ideal) (e' := .bf16) x1 r0_0 = x1 := View.ld_unit_lit _ x1 (by decide)
    show shapeCast S1536x512 (View.ld (Val := Elt Ideal) (e' := .bf16) x1 r0_0) shapeCasts_S1536x512_S1536x512 = x1
    rw [hload]
    exact shapeCast_self _ _
  have hp := piece_apply x0 Y (k0_pay22 x0 x1) (htable.symm ▸ ht) hx
  refine View.canon_apply_of_pieces (Val := Elt Ideal) (e := .f32) (edges Y) _ ?_ y (cover0_2 _ _ _ _ _ _ _ _ y)
  simp only [List.forall_mem_cons]
  exact ⟨hp 7 _, hp 6 _, hp 5 _, hp 4 _, hp 3 _, hp 2 _, hp 1 _, hp 0 _, fun _ h => absurd h List.not_mem_nil⟩

end Point

/-! ## The whole array -/

variable (m : (ℓ : Loc nD τ sig) → Buf (Elt Ideal) ℓ) (c : Dev nD) (X : Fin 128 → Plane)

/-- The planes before the launch hold `X`. -/
def PlanesHold : Prop := ∀ (p : Fin 128) (r k : Fin 512),
  (V m c main_v0 : Vec Ideal S128x512x512 .f32) (ix3 p r k) = ((X p r k : ℝ) : EReal)

/-- The grid point's number is the block's number, for the planes fetched and for the planes written. -/
theorem index_planes (t : Fin cfg0.N) : win0_0.index t = ![(t : ℕ), 0, 0] ∧ win0_2.index t = ![(t : ℕ), 0, 0]
    ∧ win0_1.index t = ![0, 0] :=
  (by decide +kernel : ∀ t : Fin grid0.N, win0_0.index t = ![(t : ℕ), 0, 0] ∧ win0_2.index t = ![(t : ℕ), 0, 0]
    ∧ win0_1.index t = ![0, 0]) t

/-- The planes of grid point `t`. -/
def pointPlanes (t : Fin cfg0.N) (q : Fin 8) : Plane := X ⟨8 * t + q, by have := lt_of_lt_of_eq t.isLt N_0; omega⟩

/-- Grid point `t` fetches its eight planes. -/
theorem fetched_planes (hX : PlanesHold m c X) (t : Fin cfg0.N) (q : Fin 8) (r k : Fin 512) :
    (iblk m c 0 t : Vec Ideal S8x512x512 .f32) (ix3 q r k) = ((pointPlanes X t q r k : ℝ) : EReal) := by
  refine Eq.trans ?_ (hX ⟨8 * t + q, by have := lt_of_lt_of_eq t.isLt N_0; omega⟩ r k)
  show (V m c main_v0 : Vec Ideal S128x512x512 .f32) ((win0_0.rect t).emb (ix3 q r k)) = _
  refine congrArg (V m c main_v0 : Vec Ideal S128x512x512 .f32) (funext fun a => Fin.ext ?_)
  refine (Pipeline.Window.rect_emb_val win0_0 t _ a).trans ?_
  rw [(index_planes t).1]
  match a with
  | ⟨0, _⟩ => show (t : ℕ) * 8 + q = 8 * t + q; omega
  | ⟨1, _⟩ => show 0 * 512 + (r : ℕ) = r; omega
  | ⟨2, _⟩ => show 0 * 512 + (k : ℕ) = k; omega

/-- Every grid point fetches the whole table. -/
theorem fetched_table (t : Fin cfg0.N) : (iblk m c 1 t : Vec Ideal S1536x512 .bf16) = V m c main_v52 := by
  funext y
  show (V m c main_v52 : Vec Ideal S1536x512 .bf16) ((win0_1.rect t).emb y) = (V m c main_v52 : Vec Ideal S1536x512 .bf16) y
  refine congrArg (V m c main_v52 : Vec Ideal S1536x512 .bf16) (funext fun a => Fin.ext ?_)
  refine (Pipeline.Window.rect_emb_val win0_1 t _ a).trans ?_
  rw [(index_planes t).2.2]
  match a with
  | ⟨0, _⟩ => show 0 * 1536 + (y 0 : ℕ) = y 0; omega
  | ⟨1, _⟩ => show 0 * 512 + (y 1 : ℕ) = y 1; omega

/-- A point's result at an index is the whole result at the index eight planes further per point. -/
theorem edges_point (t : Fin cfg0.N) (y : S8x512x512.Idx) (i : S128x512x512.Idx) (h0 : (i 0 : ℕ) = t * 8 + y 0)
    (h1 : (i 1 : ℕ) = 0 * 512 + y 1) (h2 : (i 2 : ℕ) = 0 * 512 + y 2) : edges (pointPlanes X t) y = edges X i := by
  have hp : pointPlanes X t (y 0) = X (i 0) := congrArg X (Fin.ext (by rw [h0]; show 8 * (t : ℕ) + (y 0 : ℕ) = _; omega))
  have e1 : y 1 = i 1 := Fin.ext (by omega)
  have e2 : y 2 = i 2 := Fin.ext (by omega)
  unfold edges
  rw [hp, e1, e2]

/-- What grid point `t` leaves at an index of its block. -/
theorem point_apply (hX : PlanesHold m c X) (t : Fin cfg0.N) (y : S8x512x512.Idx) :
    out0_2 (iblk m c 0 t) (iblk m c 1 t) y = edges (pointPlanes X t) y :=
  block_apply (iblk m c 0 t) (pointPlanes X t) (iblk m c 1 t) (by rw [fetched_table m c t]; exact table_isTable m c)
    (fetched_planes m c X hX t) y

/-- The result array after the run: the normalised stencil of every plane. -/
theorem array_eq (hX : PlanesHold m c X) : @Eq (Vec Ideal S128x512x512 .f32) ((dats m 0 c).arrAt 2 cfg0.N) (edges X) := by
  refine (dats m 0 c).arrAt_eq_of_covers 2 _ (by decide +kernel) fun t hf y => ?_
  rw [after0_2, cast_eq]
  refine (point_apply m c X hX t _).trans ?_
  have hplace : ∀ a, (((win0_2.rect t).emb y a : Fin _) : ℕ) = win0_2.index t a * win0_2.size a + y a :=
    fun a => Pipeline.Window.rect_emb_val win0_2 t y a
  rw [(index_planes t).2.1] at hplace
  exact edges_point X t _ _ (hplace 0) (hplace 1) (hplace 2)

end Cert.Lines
-- ==== Proof.RefNorm.lean ====
/-
  The reference's normalisation on finite data: each plane of the summed edge maps less its mean, times the reciprocal
  root of its variance plus a small number. With the halved stencil put in, this is the normalised stencil.
-/
module

public import proofs.«01_k».proof.Proof.RefEdges
public import proofs.«01_k».proof.Proof.Block
public import Idealize.ShloMosaic.Lib.Pointwise.Reduce

@[expose] public section

noncomputable section

namespace Cert.Lines

open Idealize.ShloMosaic hiding ix2 ix3 ix4 eq_ix2 eq_ix3 eq_ix4
open Idealize.ShloMosaic.TcCoe Idealize.SL.Sem Idealize.ShloMosaic.ValueIdx
open Cert.ReferenceIdeal Cert.ReferenceIdeal.Gen Cert.ReferenceIdeal.Read

/-! ## Means over a plane -/

/-- The sum over one plane, started at zero, divided by the number of entries is the plane's mean. -/
theorem mean_read (a : FVec Ideal S32x4x512x512 .f32) (S : Plane) (b : Fin 32) (ch : Fin 4)
    (ha : ∀ r c, a (ix4 b ch r c) = ((S r c : ℝ) : EReal)) :
    Ideal.div (Host.reduceAdd a (constant (F := Ideal) S_ .f32 0x00000000#32) reducesTo_S32x4x512x512_S32x4_d2_3 h_S_ (ix2 b ch))
      ((262144 : ℝ) : EReal) = ((mean S : ℝ) : EReal) := by
  have hsum : Host.reduceAdd a (constant (F := Ideal) S_ .f32 0x00000000#32) reducesTo_S32x4x512x512_S32x4_d2_3 h_S_ (ix2 b ch)
      = ((∑ r, ∑ c, S r c : ℝ) : EReal) := by
    refine (Ideal.hostReduceAdd_r4_a23 reducesTo_S32x4x512x512_S32x4_d2_3 a _ (ix2 b ch)).trans ?_
    rw [show constant (F := Ideal) S_ .f32 0x00000000#32 (Shape.Idx.first h_S_) = 0 from Ideal.ofBits_zero_f32, zero_add, coe_sum]
    refine Finset.sum_congr rfl fun r _ => ?_
    rw [coe_sum]
    exact Finset.sum_congr rfl fun c _ => ha r c
  rw [hsum, div_real _ _ (by norm_num)]
  rfl

section Stats
variable (x : Vec Ideal S32x4x512x512 .f32) (S : Plane) (b : Fin 32) (ch : Fin 4)
  (hS : ∀ r c, val_main_v185 (F := Ideal) x (ix4 b ch r c) = ((S r c : ℝ) : EReal))

include hS

/-- The reference's mean of a plane. -/
theorem refMean_apply : val_main_v189 (F := Ideal) x (ix4 b ch 0 0) = ((mean S : ℝ) : EReal) := by
  rw [val_main_v189_apply, val_main_v187_apply, val_main_v188_apply, show idx_main_v187 (ix4 b ch 0 0) = ix2 b ch from eq_ix2 _]
  show Ideal.div (val_main_v186 (F := Ideal) x (ix2 b ch)) (Ideal.ofBits .f32 0x48800000#32) = _
  rw [ofBits_count]
  exact mean_read _ S b ch hS

/-- The mean the reference's variance subtracts. -/
theorem varMean_apply : val_main_call1_v3 (F := Ideal) x (ix4 b ch 0 0) = ((mean S : ℝ) : EReal) := by
  rw [val_main_call1_v3_apply, val_main_call1_v1_apply, val_main_call1_v2_apply, show idx_main_call1_v1 (ix4 b ch 0 0) = ix2 b ch from eq_ix2 _]
  show Ideal.div (val_main_call1_v0 (F := Ideal) x (ix2 b ch)) (Ideal.ofBits .f32 0x48800000#32) = _
  rw [ofBits_count]
  exact mean_read _ S b ch hS

/-- The squared distance from the mean. -/
theorem square_apply (r c : Fin 512) : val_main_call1_v6 (F := Ideal) x (ix4 b ch r c)
    = (((S r c - mean S) * (S r c - mean S) : ℝ) : EReal) := by
  have hd : val_main_call1_v5 (F := Ideal) x (ix4 b ch r c) = ((S r c - mean S : ℝ) : EReal) := by
    rw [val_main_call1_v5_apply, val_main_call1_v4_apply, hS,
      show idx_main_call1_v4 (ix4 b ch r c) = ix4 b ch 0 0 from eq_ix4 _, varMean_apply x S b ch hS]
    exact (EReal.coe_sub _ _).symm
  rw [val_main_call1_v6_apply, hd]
  exact (EReal.coe_mul _ _).symm

omit hS in
/-- The divisor of the variance: the number of entries less zero. -/
theorem divisor_apply (i : S_.Idx) : val_main_call1_v8 (F := Ideal) i = ((262144 : ℝ) : EReal) := by
  rw [val_main_call1_v8_apply]
  show Ideal.ofBits .f32 0x48800000#32 - ((((0#32 : BitVec 32).toInt : ℤ) : ℝ) : EReal) = _
  rw [ofBits_count, ← EReal.coe_sub]
  congr 1
  simp

/-- The reference's variance of a plane: its divisor is positive, so the quotient is taken. -/
theorem refVariance_apply : val_main_v190 (F := Ideal) x (ix4 b ch 0 0) = ((variance S : ℝ) : EReal) := by
  have hcond : ∀ i, val_main_call1_v13 (F := Ideal) i = 1#1 := fun i => by
    rw [val_main_call1_v13_apply, divisor_apply]
    show Ideal.cmp .ogt _ (Ideal.ofBits .f32 0x00000000#32) = _
    rw [Ideal.ofBits_zero_f32]
    have hpos : (0 : EReal) < ((262144 : ℝ) : EReal) := by exact_mod_cast (by norm_num : (0 : ℝ) < 262144)
    simp [Ideal.cmp, hpos]
  have hquot : val_main_call1_v12 (F := Ideal) x (ix4 b ch 0 0) = ((variance S : ℝ) : EReal) := by
    rw [val_main_call1_v12_apply, val_main_call1_v10_apply, val_main_call1_v11_apply, show idx_main_call1_v10 (ix4 b ch 0 0) = ix2 b ch from eq_ix2 _, divisor_apply]
    exact mean_read _ _ b ch (square_apply x S b ch hS)
  unfold val_main_v190
  rw [select_apply, broadcastInDim_scalar_apply, hcond, select_one, hquot]

/-- The reference's normalised plane. -/
theorem refPlane_apply (r c : Fin 512) : val_main_v197 (F := Ideal) x (ix4 b ch r c)
    = (((S r c - mean S) * (√(variance S + small))⁻¹ : ℝ) : EReal) := by
  have hm : val_main_v192 (F := Ideal) x (ix4 b ch r c) = ((S r c - mean S : ℝ) : EReal) := by
    rw [val_main_v192_apply, val_main_v191_apply, hS, show idx_main_v191 (ix4 b ch r c) = ix4 b ch 0 0 from eq_ix4 _,
      refMean_apply x S b ch hS]
    exact (EReal.coe_sub _ _).symm
  have hr : val_main_v196 (F := Ideal) x (ix4 b ch r c) = (((√(variance S + small))⁻¹ : ℝ) : EReal) := by
    rw [val_main_v196_apply, show idx_main_v196 (ix4 b ch r c) = ix4 b ch 0 0 from eq_ix4 _, val_main_v195_apply,
      val_main_v194_apply, val_main_v193_apply, refVariance_apply x S b ch hS]
    show Ideal.rsqrt (((variance S : ℝ) : EReal) + Ideal.ofBits .f32 0x3727C5AC#32) = _
    rw [ofBits_small, ← EReal.coe_add, rsqrt_real _ (add_pos_of_nonneg_of_pos (variance_nonneg S) small_pos)]
  rw [val_main_v197_apply, hm, hr]
  exact (EReal.coe_mul _ _).symm

end Stats

/-! ## The reference's result -/

/-- The images as one row of 128 planes, four to a batch entry. -/
def inRow (X : Images) : Fin 128 → Plane := fun p => X ⟨p / 4, by omega⟩ ⟨p % 4, by omega⟩

/-- The reference's result array: the normalised stencil of every plane. -/
theorem reference_eq (x : Vec Ideal S32x4x512x512 .f32) (X : Images) (hx : Shows x X) :
    @Eq (Vec Ideal S128x512x512 .f32) (val_main_v198 (F := Ideal) x) (edges (inRow X)) := funext fun i => by
  obtain ⟨p, r, c, rfl⟩ : ∃ (p : Fin 128) (r c : Fin 512), i = ix3 p r c := ⟨i 0, i 1, i 2, eq_ix3 i⟩
  have hidx : idx_main_v198 (ix3 p r c) = ix4 (⟨p / 4, by omega⟩ : Fin 32) (⟨p % 4, by omega⟩ : Fin 4) r c :=
    funext fun a => Fin.ext (by
      match a with
      | ⟨0, _⟩ => show (((p : ℕ) * 512 + r) * 512 + c) / 1048576 = p / 4; omega
      | ⟨1, _⟩ => show (((p : ℕ) * 512 + r) * 512 + c) / 262144 % 4 = p % 4; omega
      | ⟨2, _⟩ => show (((p : ℕ) * 512 + r) * 512 + c) / 512 % 512 = r; omega
      | ⟨3, _⟩ => show (((p : ℕ) * 512 + r) * 512 + c) % 512 = c; omega)
  rw [val_main_v198_apply, hidx, refPlane_apply x _ _ _ (sum_apply x X hx _ _), normalised_halved _ small (4 * small) rfl small_pos]
  rfl

end Cert.Lines

end
-- ==== Proof.Tie.lean ====
/-
  The precondition on real numbers, and the two result arrays side by side: an argument that meets the precondition is
  an array of real images, and on those both programs end at the normalised stencil of every plane.
-/
module

public import proofs.«01_k».proof.Proof.RefNorm
public import proofs.«01_k».proof.Proof.Gen.Pre_finite

@[expose] public section

noncomputable section

namespace Cert.Lines

open Idealize.ShloMosaic hiding ix2 ix3 ix4 eq_ix2 eq_ix3 eq_ix4
open Idealize.ShloMosaic.TcCoe Idealize.SL.Sem Idealize.ShloMosaic.ValueIdx
open Cert.ReferenceIdeal

/-- The word of plus infinity. -/
theorem ofBits_inf : Ideal.ofBits .f32 0x7F800000#32 = ⊤ := by simp [Ideal.ofBits, Ideal.ieee]

/-- The real images an array holds, where its entries are real. -/
def images (x : Vec Ideal S32x4x512x512 .f32) : Images := fun b ch r c => (x (ix4 b ch r c)).toReal

/-- An array that meets the precondition holds its real images. -/
theorem finite_shows (x : Vec Ideal S32x4x512x512 .f32)
    (h : @Cert.Pre_finite.fn Cert.Pre_finite.Gen.facts Ideal _ x = fun _ => 1#1) : Shows x (images x) := fun b ch r c => by
  have hlt : max (x (ix4 b ch r c)) (-x (ix4 b ch r c)) < (⊤ : EReal) := by
    by_contra hn
    have hbit : Ideal.cmp .olt (max (x (ix4 b ch r c)) (-x (ix4 b ch r c))) (⊤ : EReal) = 1#1 := by
      rw [← ofBits_inf]; exact congrFun h (ix4 b ch r c)
    simp [Ideal.cmp, hn] at hbit
  refine (EReal.coe_toReal (fun e => ?_) fun e => ?_).symm
  · exact absurd (e ▸ lt_of_le_of_lt (le_max_left _ _) hlt) (lt_irrefl _)
  · rw [e, EReal.neg_bot] at hlt
    exact absurd (lt_of_le_of_lt (le_max_right _ _) hlt) (lt_irrefl _)

/-- On real images the kernel's planes are the images in a row. -/
theorem kernel_planes (m : (ℓ : Loc Cert.KernelIdeal.nD Cert.KernelIdeal.τ Cert.KernelIdeal.sig) → Buf (Elt Ideal) ℓ)
    (c : Dev Cert.KernelIdeal.nD) (X : Images) (hX : Shows (m (c.tc.loc Cert.KernelIdeal.main_arg0)) X) :
    PlanesHold m c (inRow X) := fun p r k => by
  refine (planes_read m c ⟨p / 4, by omega⟩ ⟨p % 4, by omega⟩ r k p ?_).trans (hX _ _ r k)
  show (p : ℕ) = 4 * (p / 4) + p % 4
  omega

end Cert.Lines

end
-- ==== Proof.lean ====
/-
  The claims, gathered: the two kernel programs and the reference run to the end and leave their argument and every
  semaphore counter as they should; the idealized kernel is the printed one; and on finite images the idealized kernel
  and the idealized reference end at one array, the normalised stencil of each of the 128 planes.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Tie
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.Lines

/-- The reference runs to the end, its argument unchanged; it has no semaphores to leave raised. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite images the idealized kernel and the idealized reference end at the same array. -/
theorem same_array : Cert.algebraic_KernelIdeal_ReferenceIdeal_pre_finite := by
  intro m ρ m' ρ' hpre hagree
  have hX := fun c => finite_shows _ (hpre c)
  refine ⟨fun c => edges (inRow (images (m (c.tc.loc Cert.KernelIdeal.main_arg0)))), ?_, ?_⟩
  · exact (θ_run Cert.KernelIdeal.defs _ _).mono
      (fun _ h c => ⟨(h c).1.trans (array_eq m c _ (kernel_planes m c _ (hX c))), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v198_eq (launchContents m' c))).trans ?_
    rw [launchContents_devRef, hagree c]
    exact reference_eq _ _ (hX c)

/-- Everything that is claimed of the kernel and of the reference. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_array⟩

end Cert.Proof

end
